-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_7)) (v2 : (c : Dev Cert.Kernel4Ideal.nD) → Buf (Elt Ideal) ((c.tc : Thread Cert.Kernel4Ideal.nD Cert.Kernel4Ideal.τ).loc Cert.Kernel4Ideal.main_v12_1)) (v3 : (c : Dev Cert.Kernel4Ideal.nD) → Buf (Elt Ideal) ((c.tc : Thread Cert.Kernel4Ideal.nD Cert.Kernel4Ideal.τ).loc Cert.Kernel4Ideal.main_v12_8)) (v4 : (c : Dev Cert.Kernel4Ideal.nD) → Buf (Elt Ideal) ((c.tc : Thread Cert.Kernel4Ideal.nD Cert.Kernel4Ideal.τ).loc Cert.Kernel4Ideal.main_v12_2)) (v5 : (c : Dev Cert.Kernel4Ideal.nD) → Buf (Elt Ideal) ((c.tc : Thread Cert.Kernel4Ideal.nD Cert.Kernel4Ideal.τ).loc Cert.Kernel4Ideal.main_v12_9)) (v6 : (c : Dev Cert.Kernel4Ideal.nD) → Buf (Elt Ideal) ((c.tc : Thread Cert.Kernel4Ideal.nD Cert.Kernel4Ideal.τ).loc Cert.Kernel4Ideal.main_v12_3)) (v7 : (c : Dev Cert.Kernel4Ideal.nD) → Buf (Elt Ideal) ((c.tc : Thread Cert.Kernel4Ideal.nD Cert.Kernel4Ideal.τ).loc Cert.Kernel4Ideal.main_v12_10)) (v8 : (c : Dev Cert.Kernel4Ideal.nD) → Buf (Elt Ideal) ((c.tc : Thread Cert.Kernel4Ideal.nD Cert.Kernel4Ideal.τ).loc Cert.Kernel4Ideal.main_v12_4)) (v9 : (c : Dev Cert.Kernel4Ideal.nD) → Buf (Elt Ideal) ((c.tc : Thread Cert.Kernel4Ideal.nD Cert.Kernel4Ideal.τ).loc Cert.Kernel4Ideal.main_v12_11)) (v10 : (c : Dev Cert.Kernel4Ideal.nD) → Buf (Elt Ideal) ((c.tc : Thread Cert.Kernel4Ideal.nD Cert.Kernel4Ideal.τ).loc Cert.Kernel4Ideal.main_v12_5)) (v11 : (c : Dev Cert.Kernel4Ideal.nD) → Buf (Elt Ideal) ((c.tc : Thread Cert.Kernel4Ideal.nD Cert.Kernel4Ideal.τ).loc Cert.Kernel4Ideal.main_v12_12)) (v12 : (c : Dev Cert.Kernel4Ideal.nD) → Buf (Elt Ideal) ((c.tc : Thread Cert.Kernel4Ideal.nD Cert.Kernel4Ideal.τ).loc Cert.Kernel4Ideal.main_v12_6)) (v13 : (c : Dev Cert.Kernel4Ideal.nD) → Buf (Elt Ideal) ((c.tc : Thread Cert.Kernel4Ideal.nD Cert.Kernel4Ideal.τ).loc Cert.Kernel4Ideal.main_v12_13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_7) = v1 c
          ∧ r.2.mem ((c.tc : Thread Cert.Kernel4Ideal.nD Cert.Kernel4Ideal.τ).loc Cert.Kernel4Ideal.main_v12_1) = v2 c
          ∧ r.2.mem ((c.tc : Thread Cert.Kernel4Ideal.nD Cert.Kernel4Ideal.τ).loc Cert.Kernel4Ideal.main_v12_8) = v3 c
          ∧ r.2.mem ((c.tc : Thread Cert.Kernel4Ideal.nD Cert.Kernel4Ideal.τ).loc Cert.Kernel4Ideal.main_v12_2) = v4 c
          ∧ r.2.mem ((c.tc : Thread Cert.Kernel4Ideal.nD Cert.Kernel4Ideal.τ).loc Cert.Kernel4Ideal.main_v12_9) = v5 c
          ∧ r.2.mem ((c.tc : Thread Cert.Kernel4Ideal.nD Cert.Kernel4Ideal.τ).loc Cert.Kernel4Ideal.main_v12_3) = v6 c
          ∧ r.2.mem ((c.tc : Thread Cert.Kernel4Ideal.nD Cert.Kernel4Ideal.τ).loc Cert.Kernel4Ideal.main_v12_10) = v7 c
          ∧ r.2.mem ((c.tc : Thread Cert.Kernel4Ideal.nD Cert.Kernel4Ideal.τ).loc Cert.Kernel4Ideal.main_v12_4) = v8 c
          ∧ r.2.mem ((c.tc : Thread Cert.Kernel4Ideal.nD Cert.Kernel4Ideal.τ).loc Cert.Kernel4Ideal.main_v12_11) = v9 c
          ∧ r.2.mem ((c.tc : Thread Cert.Kernel4Ideal.nD Cert.Kernel4Ideal.τ).loc Cert.Kernel4Ideal.main_v12_5) = v10 c
          ∧ r.2.mem ((c.tc : Thread Cert.Kernel4Ideal.nD Cert.Kernel4Ideal.τ).loc Cert.Kernel4Ideal.main_v12_12) = v11 c
          ∧ r.2.mem ((c.tc : Thread Cert.Kernel4Ideal.nD Cert.Kernel4Ideal.τ).loc Cert.Kernel4Ideal.main_v12_6) = v12 c
          ∧ r.2.mem ((c.tc : Thread Cert.Kernel4Ideal.nD Cert.Kernel4Ideal.τ).loc Cert.Kernel4Ideal.main_v12_13) = v13 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v50) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_v51) = v5 c
          ∧ r.2.mem ((c.tc : Thread Cert.Reference4Ideal.nD Cert.Reference4Ideal.τ).loc Cert.Reference4Ideal.main_v24) = v6 c
          ∧ r.2.mem ((c.tc : Thread Cert.Reference4Ideal.nD Cert.Reference4Ideal.τ).loc Cert.Reference4Ideal.main_v52) = v7 c
          ∧ r.2.mem ((c.tc : Thread Cert.Reference4Ideal.nD Cert.Reference4Ideal.τ).loc Cert.Reference4Ideal.main_v25) = v8 c
          ∧ r.2.mem ((c.tc : Thread Cert.Reference4Ideal.nD Cert.Reference4Ideal.τ).loc Cert.Reference4Ideal.main_v53) = v9 c
          ∧ r.2.mem ((c.tc : Thread Cert.Reference4Ideal.nD Cert.Reference4Ideal.τ).loc Cert.Reference4Ideal.main_v26) = v10 c
          ∧ r.2.mem ((c.tc : Thread Cert.Reference4Ideal.nD Cert.Reference4Ideal.τ).loc Cert.Reference4Ideal.main_v54) = v11 c
          ∧ r.2.mem ((c.tc : Thread Cert.Reference4Ideal.nD Cert.Reference4Ideal.τ).loc Cert.Reference4Ideal.main_v27) = v12 c
          ∧ r.2.mem ((c.tc : Thread Cert.Reference4Ideal.nD Cert.Reference4Ideal.τ).loc Cert.Reference4Ideal.main_v55) = v13 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_6)) (v2 : (c : Dev Cert.Kernel5Ideal.nD) → Buf (Elt Ideal) ((c.tc : Thread Cert.Kernel5Ideal.nD Cert.Kernel5Ideal.τ).loc Cert.Kernel5Ideal.main_v9_1)) (v3 : (c : Dev Cert.Kernel5Ideal.nD) → Buf (Elt Ideal) ((c.tc : Thread Cert.Kernel5Ideal.nD Cert.Kernel5Ideal.τ).loc Cert.Kernel5Ideal.main_v9_7)) (v4 : (c : Dev Cert.Kernel5Ideal.nD) → Buf (Elt Ideal) ((c.tc : Thread Cert.Kernel5Ideal.nD Cert.Kernel5Ideal.τ).loc Cert.Kernel5Ideal.main_v9_2)) (v5 : (c : Dev Cert.Kernel5Ideal.nD) → Buf (Elt Ideal) ((c.tc : Thread Cert.Kernel5Ideal.nD Cert.Kernel5Ideal.τ).loc Cert.Kernel5Ideal.main_v9_8)) (v6 : (c : Dev Cert.Kernel5Ideal.nD) → Buf (Elt Ideal) ((c.tc : Thread Cert.Kernel5Ideal.nD Cert.Kernel5Ideal.τ).loc Cert.Kernel5Ideal.main_v9_3)) (v7 : (c : Dev Cert.Kernel5Ideal.nD) → Buf (Elt Ideal) ((c.tc : Thread Cert.Kernel5Ideal.nD Cert.Kernel5Ideal.τ).loc Cert.Kernel5Ideal.main_v9_9)) (v8 : (c : Dev Cert.Kernel5Ideal.nD) → Buf (Elt Ideal) ((c.tc : Thread Cert.Kernel5Ideal.nD Cert.Kernel5Ideal.τ).loc Cert.Kernel5Ideal.main_v9_4)) (v9 : (c : Dev Cert.Kernel5Ideal.nD) → Buf (Elt Ideal) ((c.tc : Thread Cert.Kernel5Ideal.nD Cert.Kernel5Ideal.τ).loc Cert.Kernel5Ideal.main_v9_10)) (v10 : (c : Dev Cert.Kernel5Ideal.nD) → Buf (Elt Ideal) ((c.tc : Thread Cert.Kernel5Ideal.nD Cert.Kernel5Ideal.τ).loc Cert.Kernel5Ideal.main_v9_5)) (v11 : (c : Dev Cert.Kernel5Ideal.nD) → Buf (Elt Ideal) ((c.tc : Thread Cert.Kernel5Ideal.nD Cert.Kernel5Ideal.τ).loc Cert.Kernel5Ideal.main_v9_11)) (v12 : (c : Dev Cert.Kernel5Ideal.nD) → Buf (Elt Ideal) ((c.tc : Thread Cert.Kernel5Ideal.nD Cert.Kernel5Ideal.τ).loc Cert.Kernel5Ideal.main_v14)) (v13 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_6) = v1 c
          ∧ r.2.mem ((c.tc : Thread Cert.Kernel5Ideal.nD Cert.Kernel5Ideal.τ).loc Cert.Kernel5Ideal.main_v9_1) = v2 c
          ∧ r.2.mem ((c.tc : Thread Cert.Kernel5Ideal.nD Cert.Kernel5Ideal.τ).loc Cert.Kernel5Ideal.main_v9_7) = v3 c
          ∧ r.2.mem ((c.tc : Thread Cert.Kernel5Ideal.nD Cert.Kernel5Ideal.τ).loc Cert.Kernel5Ideal.main_v9_2) = v4 c
          ∧ r.2.mem ((c.tc : Thread Cert.Kernel5Ideal.nD Cert.Kernel5Ideal.τ).loc Cert.Kernel5Ideal.main_v9_8) = v5 c
          ∧ r.2.mem ((c.tc : Thread Cert.Kernel5Ideal.nD Cert.Kernel5Ideal.τ).loc Cert.Kernel5Ideal.main_v9_3) = v6 c
          ∧ r.2.mem ((c.tc : Thread Cert.Kernel5Ideal.nD Cert.Kernel5Ideal.τ).loc Cert.Kernel5Ideal.main_v9_9) = v7 c
          ∧ r.2.mem ((c.tc : Thread Cert.Kernel5Ideal.nD Cert.Kernel5Ideal.τ).loc Cert.Kernel5Ideal.main_v9_4) = v8 c
          ∧ r.2.mem ((c.tc : Thread Cert.Kernel5Ideal.nD Cert.Kernel5Ideal.τ).loc Cert.Kernel5Ideal.main_v9_10) = v9 c
          ∧ r.2.mem ((c.tc : Thread Cert.Kernel5Ideal.nD Cert.Kernel5Ideal.τ).loc Cert.Kernel5Ideal.main_v9_5) = v10 c
          ∧ r.2.mem ((c.tc : Thread Cert.Kernel5Ideal.nD Cert.Kernel5Ideal.τ).loc Cert.Kernel5Ideal.main_v9_11) = v11 c
          ∧ r.2.mem ((c.tc : Thread Cert.Kernel5Ideal.nD Cert.Kernel5Ideal.τ).loc Cert.Kernel5Ideal.main_v14) = v12 c
          ∧ r.2.mem ((c.tc : Thread Cert.Kernel5Ideal.nD Cert.Kernel5Ideal.τ).loc Cert.Kernel5Ideal.main_v16) = v13 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v57) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v30) = v4 c
          ∧ r.2.mem ((c.tc : Thread Cert.Reference5Ideal.nD Cert.Reference5Ideal.τ).loc Cert.Reference5Ideal.main_v59) = v5 c
          ∧ r.2.mem ((c.tc : Thread Cert.Reference5Ideal.nD Cert.Reference5Ideal.τ).loc Cert.Reference5Ideal.main_v31) = v6 c
          ∧ r.2.mem ((c.tc : Thread Cert.Reference5Ideal.nD Cert.Reference5Ideal.τ).loc Cert.Reference5Ideal.main_v60) = v7 c
          ∧ r.2.mem ((c.tc : Thread Cert.Reference5Ideal.nD Cert.Reference5Ideal.τ).loc Cert.Reference5Ideal.main_v32) = v8 c
          ∧ r.2.mem ((c.tc : Thread Cert.Reference5Ideal.nD Cert.Reference5Ideal.τ).loc Cert.Reference5Ideal.main_v61) = v9 c
          ∧ r.2.mem ((c.tc : Thread Cert.Reference5Ideal.nD Cert.Reference5Ideal.τ).loc Cert.Reference5Ideal.main_v33) = v10 c
          ∧ r.2.mem ((c.tc : Thread Cert.Reference5Ideal.nD Cert.Reference5Ideal.τ).loc Cert.Reference5Ideal.main_v62) = v11 c
          ∧ r.2.mem ((c.tc : Thread Cert.Reference5Ideal.nD Cert.Reference5Ideal.τ).loc Cert.Reference5Ideal.main_v26) = v12 c
          ∧ r.2.mem ((c.tc : Thread Cert.Reference5Ideal.nD Cert.Reference5Ideal.τ).loc Cert.Reference5Ideal.main_v55) = v13 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x2048x256 : Shape := ⟨3, ![8, 2048, 256]⟩
abbrev S8x2048x1024 : Shape := ⟨3, ![8, 2048, 1024]⟩
abbrev S8x2048x16 : Shape := ⟨3, ![8, 2048, 16]⟩
abbrev S8x16x128x64 : Shape := ⟨4, ![8, 16, 128, 64]⟩
abbrev S8x16x2048 : Shape := ⟨3, ![8, 16, 2048]⟩
abbrev S1x128x256 : Shape := ⟨3, ![1, 128, 256]⟩
abbrev S1x128x1024 : Shape := ⟨3, ![1, 128, 1024]⟩
abbrev S1x128x16 : Shape := ⟨3, ![1, 128, 16]⟩
abbrev S1x16x128 : Shape := ⟨3, ![1, 16, 128]⟩
abbrev S1x16x128x64 : Shape := ⟨4, ![1, 16, 128, 64]⟩
abbrev S16x128x64 : Shape := ⟨3, ![16, 128, 64]⟩
abbrev S128x128 : Shape := ⟨2, ![128, 128]⟩
abbrev S128x16 : Shape := ⟨2, ![128, 16]⟩
abbrev S16x128 : Shape := ⟨2, ![16, 128]⟩
abbrev S1x128x128 : Shape := ⟨3, ![1, 128, 128]⟩
abbrev S128x1 : Shape := ⟨2, ![128, 1]⟩
abbrev S1x128 : Shape := ⟨2, ![1, 128]⟩
abbrev S1x128x64 : Shape := ⟨3, ![1, 128, 64]⟩
abbrev S128x64 : Shape := ⟨2, ![128, 64]⟩
abbrev S1x1 : Shape := ⟨2, ![1, 1]⟩

abbrev nBuf : Space → Nat
  | .hbm => 8
  | .vmem => 17
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x1024, .f32⟩
  | .hbm, ⟨3, _⟩ => ⟨S8x2048x16, .f32⟩
  | .hbm, ⟨4, _⟩ => ⟨S8x16x128x64, .f32⟩
  | .hbm, ⟨5, _⟩ => ⟨S8x16x2048, .f32⟩
  | .hbm, ⟨6, _⟩ => ⟨S8x2048x1024, .f32⟩
  | .hbm, ⟨7, _⟩ => ⟨S8x16x128x64, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x1024, .f32⟩
  | .local _ .vmem, ⟨5, _⟩ => ⟨S1x128x1024, .f32⟩
  | .local _ .vmem, ⟨6, _⟩ => ⟨S1x128x16, .f32⟩
  | .local _ .vmem, ⟨7, _⟩ => ⟨S1x128x16, .f32⟩
  | .local _ .vmem, ⟨8, _⟩ => ⟨S1x16x128, .f32⟩
  | .local _ .vmem, ⟨9, _⟩ => ⟨S1x16x128, .f32⟩
  | .local _ .vmem, ⟨10, _⟩ => ⟨S1x16x128x64, .f32⟩
  | .local _ .vmem, ⟨11, _⟩ => ⟨S1x16x128x64, .f32⟩
  | .local _ .vmem, ⟨12, _⟩ => ⟨S1x128x1024, .f32⟩
  | .local _ .vmem, ⟨13, _⟩ => ⟨S1x128x1024, .f32⟩
  | .local _ .vmem, ⟨14, _⟩ => ⟨S1x16x128x64, .f32⟩
  | .local _ .vmem, ⟨15, _⟩ => ⟨S1x16x128x64, .f32⟩
  | .local _ .vmem, ⟨16, _⟩ => ⟨S16x128x64, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v719 : BitVec 1 := Scalar.cmpi .eq arg1 c15_i32
  let v720 : BitVec 32 := Scalar.extui v719
  let c0_i32_263 : BitVec 32 := 0#32
  let v721 : BitVec 1 := Scalar.cmpi .ne v720 c0_i32_263
  v721

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x2048x256 : Shape := ⟨3, ![8, 2048, 256]⟩
abbrev S8x2048x1024 : Shape := ⟨3, ![8, 2048, 1024]⟩
abbrev S8x2048x16 : Shape := ⟨3, ![8, 2048, 16]⟩
abbrev S8x16x128x64 : Shape := ⟨4, ![8, 16, 128, 64]⟩
abbrev S8x2048x2x128 : Shape := ⟨4, ![8, 2048, 2, 128]⟩
abbrev S8x2048x2x8x128 : Shape := ⟨5, ![8, 2048, 2, 8, 128]⟩
abbrev S8x2048x16x128 : Shape := ⟨4, ![8, 2048, 16, 128]⟩
abbrev S8x2048x16x64 : Shape := ⟨4, ![8, 2048, 16, 64]⟩
abbrev S8x16x128x16x128 : Shape := ⟨5, ![8, 16, 128, 16, 128]⟩
abbrev S16x8x128x16x128 : Shape := ⟨5, ![16, 8, 128, 16, 128]⟩
abbrev S8x16x128x16x64 : Shape := ⟨5, ![8, 16, 128, 16, 64]⟩
abbrev S16x8x128x16x64 : Shape := ⟨5, ![16, 8, 128, 16, 64]⟩
abbrev S8x16x128x16 : Shape := ⟨4, ![8, 16, 128, 16]⟩
abbrev S16x8x128x16 : Shape := ⟨4, ![16, 8, 128, 16]⟩
abbrev S_ : Shape := ⟨0, ![]⟩
abbrev S1x8x128x16x128 : Shape := ⟨5, ![1, 8, 128, 16, 128]⟩
abbrev S8x128x16x128 : Shape := ⟨4, ![8, 128, 16, 128]⟩
abbrev S1x8x128x16x64 : Shape := ⟨5, ![1, 8, 128, 16, 64]⟩
abbrev S8x128x16x64 : Shape := ⟨4, ![8, 128, 16, 64]⟩
abbrev S1x8x128x16 : Shape := ⟨4, ![1, 8, 128, 16]⟩
abbrev S8x128x16 : Shape := ⟨3, ![8, 128, 16]⟩
abbrev S128x128 : Shape := ⟨2, ![128, 128]⟩
abbrev S1x128x128x1 : Shape := ⟨4, ![1, 128, 128, 1]⟩
abbrev S8x128x1x16 : Shape := ⟨4, ![8, 128, 1, 16]⟩
abbrev S8x1x128x16 : Shape := ⟨4, ![8, 1, 128, 16]⟩
abbrev S8x128x128x16 : Shape := ⟨4, ![8, 128, 128, 16]⟩
abbrev S8x16x128x128 : Shape := ⟨4, ![8, 16, 128, 128]⟩
abbrev S8x16x64x128 : Shape := ⟨4, ![8, 16, 64, 128]⟩
abbrev S8x128x16x1 : Shape := ⟨4, ![8, 128, 16, 1]⟩
abbrev S8x1x16 : Shape := ⟨3, ![8, 1, 16]⟩
abbrev S8x16 : Shape := ⟨2, ![8, 16]⟩
abbrev S8x16x1x1 : Shape := ⟨4, ![8, 16, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x1024, .f32⟩
  | .hbm, ⟨3, _⟩ => ⟨S8x2048x16, .f32⟩
  | .hbm, ⟨4, _⟩ => ⟨S8x16x128x64, .f32⟩
  | .hbm, ⟨5, _⟩ => ⟨S8x2048x2x128, .f32⟩
  | .hbm, ⟨6, _⟩ => ⟨S8x2048x2x8x128, .f32⟩
  | .hbm, ⟨7, _⟩ => ⟨S8x2048x16x128, .f32⟩
  | .hbm, ⟨8, _⟩ => ⟨S8x2048x2x128, .f32⟩
  | .hbm, ⟨9, _⟩ => ⟨S8x2048x2x8x128, .f32⟩
  | .hbm, ⟨10, _⟩ => ⟨S8x2048x16x128, .f32⟩
  | .hbm, ⟨11, _⟩ => ⟨S8x2048x16x64, .f32⟩
  | .hbm, ⟨12, _⟩ => ⟨S8x16x128x16x128, .f32⟩
  | .hbm, ⟨13, _⟩ => ⟨S16x8x128x16x128, .f32⟩
  | .hbm, ⟨14, _⟩ => ⟨S8x16x128x16x128, .f32⟩
  | .hbm, ⟨15, _⟩ => ⟨S16x8x128x16x128, .f32⟩
  | .hbm, ⟨16, _⟩ => ⟨S8x16x128x16x64, .f32⟩
  | .hbm, ⟨17, _⟩ => ⟨S16x8x128x16x64, .f32⟩
  | .hbm, ⟨18, _⟩ => ⟨S8x16x128x16, .f32⟩
  | .hbm, ⟨19, _⟩ => ⟨S16x8x128x16, .f32⟩
  | .hbm, ⟨20, _⟩ => ⟨S_, .f32⟩
  | .hbm, ⟨21, _⟩ => ⟨S16x8x128x16x64, .f32⟩
  | .hbm, ⟨22, _⟩ => ⟨S_, .i32⟩
  | .hbm, ⟨23, _⟩ => ⟨S16x8x128x16x128, .f32⟩
  | .hbm, ⟨24, _⟩ => ⟨S16x8x128x16x128, .f32⟩
  | .hbm, ⟨25, _⟩ => ⟨S16x8x128x16x64, .f32⟩
  | .hbm, ⟨26, _⟩ => ⟨S16x8x128x16, .f32⟩
  | .hbm, ⟨27, _⟩ => ⟨S_, .i32⟩
  | .hbm, ⟨28, _⟩ => ⟨S8x16x128x64, .f32⟩
  | .hbm, ⟨29, _⟩ => ⟨S16x8x128x16x64, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x8x128x16x128, .f32⟩
  | .hbm, ⟨37, _⟩ => ⟨S8x128x16x128, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x8x128x16x128, .f32⟩
  | .hbm, ⟨43, _⟩ => ⟨S8x128x16x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x8x128x16x64, .f32⟩
  | .hbm, ⟨49, _⟩ => ⟨S8x128x16x64, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x8x128x16, .f32⟩
  | .hbm, ⟨54, _⟩ => ⟨S8x128x16, .f32⟩
  | .hbm, ⟨55, _⟩ => ⟨S_, .f32⟩
  | .hbm, ⟨56, _⟩ => ⟨S_, .f32⟩
  | .hbm, ⟨57, _⟩ => ⟨S8x128x16, .f32⟩
  | .hbm, ⟨58, _⟩ => ⟨S_, .i1⟩
  | .hbm, ⟨59, _⟩ => ⟨S128x128, .i1⟩
  | .hbm, ⟨60, _⟩ => ⟨S128x128, .i32⟩
  | .hbm, ⟨61, _⟩ => ⟨S_, .i32⟩
  | .hbm, ⟨62, _⟩ => ⟨S128x128, .i32⟩
  | .hbm, ⟨63, _⟩ => ⟨S128x128, .i32⟩
  | .hbm, ⟨64, _⟩ => ⟨S128x128, .i32⟩
  | .hbm, ⟨65, _⟩ => ⟨S128x128, .i1⟩
  | .hbm, ⟨66, _⟩ => ⟨S_, .i1⟩
  | .hbm, ⟨67, _⟩ => ⟨S128x128, .i1⟩
  | .hbm, ⟨68, _⟩ => ⟨S128x128, .i1⟩
  | .hbm, ⟨69, _⟩ => ⟨S1x128x128x1, .i1⟩
  | .hbm, ⟨70, _⟩ => ⟨S8x128x1x16, .f32⟩
  | .hbm, ⟨71, _⟩ => ⟨S8x1x128x16, .f32⟩
  | .hbm, ⟨72, _⟩ => ⟨S8x128x128x16, .f32⟩
  | .hbm, ⟨73, _⟩ => ⟨S8x128x128x16, .f32⟩
  | .hbm, ⟨74, _⟩ => ⟨S8x128x128x16, .f32⟩
  | .hbm, ⟨75, _⟩ => ⟨S_, .f32⟩
  | .hbm, ⟨76, _⟩ => ⟨S_, .f32⟩
  | .hbm, ⟨77, _⟩ => ⟨S8x128x128x16, .i1⟩
  | .hbm, ⟨78, _⟩ => ⟨S8x128x128x16, .f32⟩
  | .hbm, ⟨79, _⟩ => ⟨S8x128x128x16, .f32⟩
  | .hbm, ⟨80, _⟩ => ⟨S8x128x128x16, .f32⟩
  | .hbm, ⟨81, _⟩ => ⟨S_, .f32⟩
  | .hbm, ⟨82, _⟩ => ⟨S_, .f32⟩
  | .hbm, ⟨83, _⟩ => ⟨S8x128x128x16, .i1⟩
  | .hbm, ⟨84, _⟩ => ⟨S8x128x128x16, .f32⟩
  | .hbm, ⟨85, _⟩ => ⟨S8x128x128x16, .f32⟩
  | .hbm, ⟨86, _⟩ => ⟨S8x16x128x128, .f32⟩
  | .hbm, ⟨87, _⟩ => ⟨S8x128x128x16, .f32⟩
  | .hbm, ⟨88, _⟩ => ⟨S8x128x128x16, .f32⟩
  | .hbm, ⟨89, _⟩ => ⟨S8x16x64x128, .f32⟩
  | .hbm, ⟨90, _⟩ => ⟨S8x128x16x64, .f32⟩
  | .hbm, ⟨91, _⟩ => ⟨S8x128x16, .f32⟩
  | .hbm, ⟨92, _⟩ => ⟨S8x128x16x1, .f32⟩
  | .hbm, ⟨93, _⟩ => ⟨S8x128x16x128, .f32⟩
  | .hbm, ⟨94, _⟩ => ⟨S8x128x16x128, .f32⟩
  | .hbm, ⟨95, _⟩ => ⟨S8x16x64x128, .f32⟩
  | .hbm, ⟨96, _⟩ => ⟨S8x128x16x64, .f32⟩
  | .hbm, ⟨97, _⟩ => ⟨S8x128x16x64, .f32⟩
  | .hbm, ⟨98, _⟩ => ⟨S8x1x16, .f32⟩
  | .hbm, ⟨99, _⟩ => ⟨S8x16, .f32⟩
  | .hbm, ⟨100, _⟩ => ⟨S8x1x16, .f32⟩
  | .hbm, ⟨101, _⟩ => ⟨S8x128x16, .f32⟩
  | .hbm, ⟨102, _⟩ => ⟨S8x128x16, .f32⟩
  | .hbm, ⟨103, _⟩ => ⟨S8x128x16, .f32⟩
  | .hbm, ⟨104, _⟩ => ⟨S8x16, .f32⟩
  | .hbm, ⟨105, _⟩ => ⟨S8x16x1x1, .f32⟩
  | .hbm, ⟨106, _⟩ => ⟨S8x16x128x64, .f32⟩
  | .hbm, ⟨107, _⟩ => ⟨S8x16x128x64, .f32⟩
  | .hbm, ⟨108, _⟩ => ⟨S8x128x16x1, .f32⟩
  | .hbm, ⟨109, _⟩ => ⟨S8x128x16x128, .f32⟩
  | .hbm, ⟨110, _⟩ => ⟨S8x128x16x128, .f32⟩
  | .hbm, ⟨111, _⟩ => ⟨S8x16x128x64, .f32⟩
  | .hbm, ⟨112, _⟩ => ⟨S8x16x128x64, .f32⟩
  | .hbm, ⟨113, _⟩ => ⟨S1x8x128x16x64, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S16x8x128x16x64, .f32⟩
  | .hbm, ⟨119, _⟩ => ⟨S_, .i32⟩
  | .hbm, ⟨120, _⟩ => ⟨S_, .i32⟩
  | .hbm, ⟨121, _⟩ => ⟨S8x16x128x16x64, .f32⟩
  | .hbm, ⟨122, _⟩ => ⟨S8x2048x16x64, .f32⟩
  | .hbm, ⟨123, _⟩ => ⟨S8x2048x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_c : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_while0c_c_6 : Ref sig .tc := ⟨.hbm, 30, rfl⟩
abbrev main_while0c_v20 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_c_1 : Ref sig .tc := ⟨.hbm, 34, rfl⟩
abbrev main_while0b_call0_c_2 : Ref sig .tc := ⟨.hbm, 35, rfl⟩
abbrev main_while0b_call0_v0 : Ref sig .tc := ⟨.hbm, 36, rfl⟩
abbrev main_while0b_v20 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_c_2 : Ref sig .tc := ⟨.hbm, 41, rfl⟩
abbrev main_while0b_call1_v0 : Ref sig .tc := ⟨.hbm, 42, rfl⟩
abbrev main_while0b_v21 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_c_2 : Ref sig .tc := ⟨.hbm, 47, rfl⟩
abbrev main_while0b_call2_v0 : Ref sig .tc := ⟨.hbm, 48, rfl⟩
abbrev main_while0b_v22 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_call3_c_1 : Ref sig .tc := ⟨.hbm, 52, rfl⟩
abbrev main_while0b_call3_v0 : Ref sig .tc := ⟨.hbm, 53, rfl⟩
abbrev main_while0b_v23 : Ref sig .tc := ⟨.hbm, 54, rfl⟩
abbrev main_while0b_call4_call0_cst : Ref sig .tc := ⟨.hbm, 55, rfl⟩
abbrev main_while0b_call4_call0_v0 : Ref sig .tc := ⟨.hbm, 56, rfl⟩
abbrev main_while0b_v24 : Ref sig .tc := ⟨.hbm, 57, rfl⟩
abbrev main_while0b_c_6 : Ref sig .tc := ⟨.hbm, 58, rfl⟩
abbrev main_while0b_v25 : Ref sig .tc := ⟨.hbm, 59, rfl⟩
abbrev main_while0b_call5_v0 : Ref sig .tc := ⟨.hbm, 60, rfl⟩
abbrev main_while0b_call5_c : Ref sig .tc := ⟨.hbm, 61, rfl⟩
abbrev main_while0b_call5_v1 : Ref sig .tc := ⟨.hbm, 62, rfl⟩
abbrev main_while0b_call5_v2 : Ref sig .tc := ⟨.hbm, 63, rfl⟩
abbrev main_while0b_call5_v3 : Ref sig .tc := ⟨.hbm, 64, rfl⟩
abbrev main_while0b_call5_v4 : Ref sig .tc := ⟨.hbm, 65, rfl⟩
abbrev main_while0b_call5_c_0 : Ref sig .tc := ⟨.hbm, 66, rfl⟩
abbrev main_while0b_call5_v5 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_cst_7 : Ref sig .tc := ⟨.hbm, 75, rfl⟩
abbrev main_while0b_call6_v0 : Ref sig .tc := ⟨.hbm, 76, rfl⟩
abbrev main_while0b_call6_v1 : Ref sig .tc := ⟨.hbm, 77, rfl⟩
abbrev main_while0b_call6_v2 : Ref sig .tc := ⟨.hbm, 78, rfl⟩
abbrev main_while0b_v33 : Ref sig .tc := ⟨.hbm, 79, rfl⟩
abbrev main_while0b_v34 : Ref sig .tc := ⟨.hbm, 80, rfl⟩
abbrev main_while0b_cst_8 : Ref sig .tc := ⟨.hbm, 81, rfl⟩
abbrev main_while0b_call7_v0 : Ref sig .tc := ⟨.hbm, 82, rfl⟩
abbrev main_while0b_call7_v1 : Ref sig .tc := ⟨.hbm, 83, rfl⟩
abbrev main_while0b_call7_v2 : Ref sig .tc := ⟨.hbm, 84, rfl⟩
abbrev main_while0b_v35 : Ref sig .tc := ⟨.hbm, 85, rfl⟩
abbrev main_while0b_v36 : Ref sig .tc := ⟨.hbm, 86, rfl⟩
abbrev main_while0b_v37 : Ref sig .tc := ⟨.hbm, 87, rfl⟩
abbrev main_while0b_v38 : Ref sig .tc := ⟨.hbm, 88, rfl⟩
abbrev main_while0b_v39 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_call8_v0 : Ref sig .tc := ⟨.hbm, 113, rfl⟩
abbrev main_while0b_call8_c : Ref sig .tc := ⟨.hbm, 114, rfl⟩
abbrev main_while0b_call8_c_0 : Ref sig .tc := ⟨.hbm, 115, rfl⟩
abbrev main_while0b_call8_c_1 : Ref sig .tc := ⟨.hbm, 116, rfl⟩
abbrev main_while0b_call8_c_2 : Ref sig .tc := ⟨.hbm, 117, rfl⟩
abbrev main_while0b_v63 : Ref sig .tc := ⟨.hbm, 118, rfl⟩
abbrev main_while0b_c_9 : Ref sig .tc := ⟨.hbm, 119, rfl⟩
abbrev main_while0b_v64 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16896x1024 : Shape := ⟨2, ![16896, 1024]⟩
abbrev S1024 : Shape := ⟨1, ![1024]⟩
abbrev S1024x2048 : Shape := ⟨2, ![1024, 2048]⟩
abbrev S128x128 : Shape := ⟨2, ![128, 128]⟩
abbrev S1x1024 : Shape := ⟨2, ![1, 1024]⟩
abbrev S8x128x16896 : Shape := ⟨3, ![8, 128, 16896]⟩
abbrev S512x1024 : Shape := ⟨2, ![512, 1024]⟩
abbrev S8x128x512 : Shape := ⟨3, ![8, 128, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 12
  | .vmem => 12
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2048, .f32⟩
  | .hbm, ⟨3, _⟩ => ⟨S128x128, .f32⟩
  | .hbm, ⟨4, _⟩ => ⟨S128x128, .f32⟩
  | .hbm, ⟨5, _⟩ => ⟨S1024x2048, .bf16⟩
  | .hbm, ⟨6, _⟩ => ⟨S128x128, .bf16⟩
  | .hbm, ⟨7, _⟩ => ⟨S128x128, .bf16⟩
  | .hbm, ⟨8, _⟩ => ⟨S1x1024, .f32⟩
  | .hbm, ⟨9, _⟩ => ⟨S16896x1024, .bf16⟩
  | .hbm, ⟨10, _⟩ => ⟨S8x128x16896, .f32⟩
  | .hbm, ⟨11, _⟩ => ⟨S8x128x16896, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S128x128, .bf16⟩
  | .local _ .vmem, ⟨5, _⟩ => ⟨S128x128, .bf16⟩
  | .local _ .vmem, ⟨6, _⟩ => ⟨S512x1024, .bf16⟩
  | .local _ .vmem, ⟨7, _⟩ => ⟨S512x1024, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16896x1024 : Shape := ⟨2, ![16896, 1024]⟩
abbrev S1024 : Shape := ⟨1, ![1024]⟩
abbrev S1024x2048 : Shape := ⟨2, ![1024, 2048]⟩
abbrev S128x128 : Shape := ⟨2, ![128, 128]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x2048 : Shape := ⟨2, ![16896, 2048]⟩
abbrev S16896x8x256 : Shape := ⟨3, ![16896, 8, 256]⟩
abbrev S16896x8x128 : Shape := ⟨3, ![16896, 8, 128]⟩
abbrev S8x128x16896 : Shape := ⟨3, ![8, 128, 16896]⟩

abbrev nBuf : Space → Nat
  | .hbm => 30
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x2048, .f32⟩
  | .hbm, ⟨3, _⟩ => ⟨S128x128, .f32⟩
  | .hbm, ⟨4, _⟩ => ⟨S128x128, .f32⟩
  | .hbm, ⟨5, _⟩ => ⟨S16896x1024, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x1024, .f32⟩
  | .hbm, ⟨17, _⟩ => ⟨S16896x1024, .f32⟩
  | .hbm, ⟨18, _⟩ => ⟨S1x1024, .f32⟩
  | .hbm, ⟨19, _⟩ => ⟨S16896x1024, .f32⟩
  | .hbm, ⟨20, _⟩ => ⟨S16896x1024, .f32⟩
  | .hbm, ⟨21, _⟩ => ⟨S16896x2048, .f32⟩
  | .hbm, ⟨22, _⟩ => ⟨S16896x8x256, .f32⟩
  | .hbm, ⟨23, _⟩ => ⟨S16896x8x128, .f32⟩
  | .hbm, ⟨24, _⟩ => ⟨S16896x8x128, .f32⟩
  | .hbm, ⟨25, _⟩ => ⟨S16896x8x128, .f32⟩
  | .hbm, ⟨26, _⟩ => ⟨S16896x8x128, .f32⟩
  | .hbm, ⟨27, _⟩ => ⟨S16896x1024, .bf16⟩
  | .hbm, ⟨28, _⟩ => ⟨S8x128x16896, .f32⟩
  | .hbm, ⟨29, _⟩ => ⟨S8x128x16896, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel3.lean ====
abbrev S16384x1536 : Shape := ⟨2, ![16384, 1536]⟩
abbrev S512x1536 : Shape := ⟨2, ![512, 1536]⟩
abbrev S1536x1024 : Shape := ⟨2, ![1536, 1024]⟩
abbrev S16896x1024 : Shape := ⟨2, ![16896, 1024]⟩
abbrev S16896x1536 : Shape := ⟨2, ![16896, 1536]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1536, .f32⟩
  | .hbm, ⟨1, _⟩ => ⟨S512x1536, .f32⟩
  | .hbm, ⟨2, _⟩ => ⟨S1536x1024, .f32⟩
  | .hbm, ⟨3, _⟩ => ⟨S16896x1024, .f32⟩
  | .hbm, ⟨4, _⟩ => ⟨S16896x1536, .f32⟩
  | .hbm, ⟨5, _⟩ => ⟨S16896x1536, .bf16⟩
  | .hbm, ⟨6, _⟩ => ⟨S1536x1024, .bf16⟩
  | .hbm, ⟨7, _⟩ => ⟨S16896x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel3Ideal.lean ====
abbrev S16384x1536 : Shape := ⟨2, ![16384, 1536]⟩
abbrev S512x1536 : Shape := ⟨2, ![512, 1536]⟩
abbrev S1536x1024 : Shape := ⟨2, ![1536, 1024]⟩
abbrev S16896x1024 : Shape := ⟨2, ![16896, 1024]⟩
abbrev S16896x1536 : Shape := ⟨2, ![16896, 1536]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1536, .f32⟩
  | .hbm, ⟨1, _⟩ => ⟨S512x1536, .f32⟩
  | .hbm, ⟨2, _⟩ => ⟨S1536x1024, .f32⟩
  | .hbm, ⟨3, _⟩ => ⟨S16896x1024, .f32⟩
  | .hbm, ⟨4, _⟩ => ⟨S16896x1536, .f32⟩
  | .hbm, ⟨5, _⟩ => ⟨S16896x1536, .bf16⟩
  | .hbm, ⟨6, _⟩ => ⟨S1536x1024, .bf16⟩
  | .hbm, ⟨7, _⟩ => ⟨S16896x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x1536 : Shape := ⟨2, ![16384, 1536]⟩
abbrev S512x1536 : Shape := ⟨2, ![512, 1536]⟩
abbrev S1536x1024 : Shape := ⟨2, ![1536, 1024]⟩
abbrev S16896x1024 : Shape := ⟨2, ![16896, 1024]⟩
abbrev S16384x1024 : Shape := ⟨2, ![16384, 1024]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S512x1536, .f32⟩
  | .hbm, ⟨2, _⟩ => ⟨S1536x1024, .f32⟩
  | .hbm, ⟨3, _⟩ => ⟨S16896x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S16896x1024, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8x2048x1024 : Shape := ⟨3, ![8, 2048, 1024]⟩
abbrev S128x4x1024 : Shape := ⟨3, ![128, 4, 1024]⟩
abbrev S1024 : Shape := ⟨1, ![1024]⟩
abbrev S1024x6144 : Shape := ⟨2, ![1024, 6144]⟩
abbrev S16384x1024 : Shape := ⟨2, ![16384, 1024]⟩
abbrev S512x1024 : Shape := ⟨2, ![512, 1024]⟩
abbrev S16896x1024 : Shape := ⟨2, ![16896, 1024]⟩
abbrev S1024x1536 : Shape := ⟨2, ![1024, 1536]⟩
abbrev S1024x256 : Shape := ⟨2, ![1024, 256]⟩
abbrev S1024x512 : Shape := ⟨2, ![1024, 512]⟩
abbrev S1x1024 : Shape := ⟨2, ![1, 1024]⟩
abbrev S16384x1536 : Shape := ⟨2, ![16384, 1536]⟩
abbrev S16384x256 : Shape := ⟨2, ![16384, 256]⟩
abbrev S16384x512 : Shape := ⟨2, ![16384, 512]⟩
abbrev S512x1536 : Shape := ⟨2, ![512, 1536]⟩
abbrev S512x256 : Shape := ⟨2, ![512, 256]⟩
abbrev S512x512 : Shape := ⟨2, ![512, 512]⟩
abbrev S256x1024 : Shape := ⟨2, ![256, 1024]⟩
abbrev S256x1536 : Shape := ⟨2, ![256, 1536]⟩
abbrev S256x256 : Shape := ⟨2, ![256, 256]⟩
abbrev S256x512 : Shape := ⟨2, ![256, 512]⟩
abbrev S256 : Shape := ⟨1, ![256]⟩
abbrev S256x1 : Shape := ⟨2, ![256, 1]⟩

abbrev nBuf : Space → Nat
  | .hbm => 30
  | .vmem => 38
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x6144, .f32⟩
  | .hbm, ⟨4, _⟩ => ⟨S16384x1024, .f32⟩
  | .hbm, ⟨5, _⟩ => ⟨S512x1024, .f32⟩
  | .hbm, ⟨6, _⟩ => ⟨S16896x1024, .f32⟩
  | .hbm, ⟨7, _⟩ => ⟨S1024x6144, .bf16⟩
  | .hbm, ⟨8, _⟩ => ⟨S1024x1536, .bf16⟩
  | .hbm, ⟨9, _⟩ => ⟨S1024x1536, .bf16⟩
  | .hbm, ⟨10, _⟩ => ⟨S1024x1536, .bf16⟩
  | .hbm, ⟨11, _⟩ => ⟨S1024x256, .bf16⟩
  | .hbm, ⟨12, _⟩ => ⟨S1024x256, .bf16⟩
  | .hbm, ⟨13, _⟩ => ⟨S1024x512, .bf16⟩
  | .hbm, ⟨14, _⟩ => ⟨S1024x512, .bf16⟩
  | .hbm, ⟨15, _⟩ => ⟨S1x1024, .f32⟩
  | .hbm, ⟨16, _⟩ => ⟨S16384x1536, .f32⟩
  | .hbm, ⟨17, _⟩ => ⟨S16384x1536, .f32⟩
  | .hbm, ⟨18, _⟩ => ⟨S16384x1536, .f32⟩
  | .hbm, ⟨19, _⟩ => ⟨S16384x256, .f32⟩
  | .hbm, ⟨20, _⟩ => ⟨S16384x256, .f32⟩
  | .hbm, ⟨21, _⟩ => ⟨S16384x512, .f32⟩
  | .hbm, ⟨22, _⟩ => ⟨S16384x512, .f32⟩
  | .hbm, ⟨23, _⟩ => ⟨S512x1536, .f32⟩
  | .hbm, ⟨24, _⟩ => ⟨S512x1536, .f32⟩
  | .hbm, ⟨25, _⟩ => ⟨S512x1536, .f32⟩
  | .hbm, ⟨26, _⟩ => ⟨S512x256, .f32⟩
  | .hbm, ⟨27, _⟩ => ⟨S512x256, .f32⟩
  | .hbm, ⟨28, _⟩ => ⟨S512x512, .f32⟩
  | .hbm, ⟨29, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x1536, .f32⟩
  | .local _ .vmem, ⟨25, _⟩ => ⟨S256x1536, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev main_v12_6 : Ref sig .tc := ⟨.hbm, 22, rfl⟩
abbrev main_v12_7 : Ref sig .tc := ⟨.hbm, 23, rfl⟩
abbrev main_v12_8 : Ref sig .tc := ⟨.hbm, 24, rfl⟩
abbrev main_v12_9 : Ref sig .tc := ⟨.hbm, 25, rfl⟩
abbrev main_v12_10 : Ref sig .tc := ⟨.hbm, 26, rfl⟩
abbrev main_v12_11 : Ref sig .tc := ⟨.hbm, 27, rfl⟩
abbrev main_v12_12 : Ref sig .tc := ⟨.hbm, 28, rfl⟩
abbrev main_v12_13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c64_i32 : BitVec 32 := 64#32
  let v17 : BitVec 1 := Scalar.cmpi .slt arg0 c64_i32
  let v18 : BitVec 32 := Scalar.extui v17
  let c0_i32 : BitVec 32 := 0#32
  let v19 : BitVec 1 := Scalar.cmpi .ne v18 c0_i32
  v19

def k0_cond2 (i : grid0.Coords) : BitVec 1 :=
  let arg0 : BitVec 32 := BitVec.ofNat 32 (i 0).val
  let c64_i32_5 : BitVec 32 := 64#32
  let v20 : BitVec 1 := Scalar.cmpi .sge arg0 c64_i32_5
  let v21 : BitVec 32 := Scalar.extui v20
  let c0_i32_6 : BitVec 32 := 0#32
  let v22 : BitVec 1 := Scalar.cmpi .ne v21 c0_i32_6
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_21 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S8x2048x1024 : Shape := ⟨3, ![8, 2048, 1024]⟩
abbrev S128x4x1024 : Shape := ⟨3, ![128, 4, 1024]⟩
abbrev S1024 : Shape := ⟨1, ![1024]⟩
abbrev S1024x6144 : Shape := ⟨2, ![1024, 6144]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S8x2048x1536 : Shape := ⟨3, ![8, 2048, 1536]⟩
abbrev S8x2048x256 : Shape := ⟨3, ![8, 2048, 256]⟩
abbrev S8x2048x512 : Shape := ⟨3, ![8, 2048, 512]⟩
abbrev S16384x1536 : Shape := ⟨2, ![16384, 1536]⟩
abbrev S16384x256 : Shape := ⟨2, ![16384, 256]⟩
abbrev S16384x512 : Shape := ⟨2, ![16384, 512]⟩
abbrev S128x4 : Shape := ⟨2, ![128, 4]⟩
abbrev S128x4x1 : Shape := ⟨3, ![128, 4, 1]⟩
abbrev S128x4x6144 : Shape := ⟨3, ![128, 4, 6144]⟩
abbrev S128x4x1536 : Shape := ⟨3, ![128, 4, 1536]⟩
abbrev S128x4x256 : Shape := ⟨3, ![128, 4, 256]⟩
abbrev S128x4x512 : Shape := ⟨3, ![128, 4, 512]⟩
abbrev S512x1536 : Shape := ⟨2, ![512, 1536]⟩
abbrev S512x256 : Shape := ⟨2, ![512, 256]⟩
abbrev S512x512 : Shape := ⟨2, ![512, 512]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S128x4x1024, .f32⟩
  | .hbm, ⟨2, _⟩ => ⟨S1024, .f32⟩
  | .hbm, ⟨3, _⟩ => ⟨S1024x6144, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x6144, .f32⟩
  | .hbm, ⟨21, _⟩ => ⟨S8x2048x1536, .f32⟩
  | .hbm, ⟨22, _⟩ => ⟨S8x2048x1536, .f32⟩
  | .hbm, ⟨23, _⟩ => ⟨S8x2048x1536, .f32⟩
  | .hbm, ⟨24, _⟩ => ⟨S8x2048x256, .f32⟩
  | .hbm, ⟨25, _⟩ => ⟨S8x2048x256, .f32⟩
  | .hbm, ⟨26, _⟩ => ⟨S8x2048x512, .f32⟩
  | .hbm, ⟨27, _⟩ => ⟨S8x2048x512, .f32⟩
  | .hbm, ⟨28, _⟩ => ⟨S16384x1536, .f32⟩
  | .hbm, ⟨29, _⟩ => ⟨S16384x1536, .f32⟩
  | .hbm, ⟨30, _⟩ => ⟨S16384x1536, .f32⟩
  | .hbm, ⟨31, _⟩ => ⟨S16384x256, .f32⟩
  | .hbm, ⟨32, _⟩ => ⟨S16384x256, .f32⟩
  | .hbm, ⟨33, _⟩ => ⟨S16384x512, .f32⟩
  | .hbm, ⟨34, _⟩ => ⟨S16384x512, .f32⟩
  | .hbm, ⟨35, _⟩ => ⟨S128x4x1024, .f32⟩
  | .hbm, ⟨36, _⟩ => ⟨S_, .f32⟩
  | .hbm, ⟨37, _⟩ => ⟨S128x4, .f32⟩
  | .hbm, ⟨38, _⟩ => ⟨S128x4x1, .f32⟩
  | .hbm, ⟨39, _⟩ => ⟨S_, .f32⟩
  | .hbm, ⟨40, _⟩ => ⟨S128x4x1, .f32⟩
  | .hbm, ⟨41, _⟩ => ⟨S128x4x1, .f32⟩
  | .hbm, ⟨42, _⟩ => ⟨S_, .f32⟩
  | .hbm, ⟨43, _⟩ => ⟨S128x4x1, .f32⟩
  | .hbm, ⟨44, _⟩ => ⟨S128x4x1, .f32⟩
  | .hbm, ⟨45, _⟩ => ⟨S128x4x1, .f32⟩
  | .hbm, ⟨46, _⟩ => ⟨S128x4x1024, .f32⟩
  | .hbm, ⟨47, _⟩ => ⟨S128x4x1024, .f32⟩
  | .hbm, ⟨48, _⟩ => ⟨S1x1x1024, .f32⟩
  | .hbm, ⟨49, _⟩ => ⟨S128x4x1024, .f32⟩
  | .hbm, ⟨50, _⟩ => ⟨S128x4x1024, .f32⟩
  | .hbm, ⟨51, _⟩ => ⟨S128x4x6144, .f32⟩
  | .hbm, ⟨52, _⟩ => ⟨S128x4x1536, .f32⟩
  | .hbm, ⟨53, _⟩ => ⟨S128x4x1536, .f32⟩
  | .hbm, ⟨54, _⟩ => ⟨S128x4x1536, .f32⟩
  | .hbm, ⟨55, _⟩ => ⟨S128x4x256, .f32⟩
  | .hbm, ⟨56, _⟩ => ⟨S128x4x256, .f32⟩
  | .hbm, ⟨57, _⟩ => ⟨S128x4x512, .f32⟩
  | .hbm, ⟨58, _⟩ => ⟨S128x4x512, .f32⟩
  | .hbm, ⟨59, _⟩ => ⟨S512x1536, .f32⟩
  | .hbm, ⟨60, _⟩ => ⟨S512x1536, .f32⟩
  | .hbm, ⟨61, _⟩ => ⟨S512x1536, .f32⟩
  | .hbm, ⟨62, _⟩ => ⟨S512x256, .f32⟩
  | .hbm, ⟨63, _⟩ => ⟨S512x256, .f32⟩
  | .hbm, ⟨64, _⟩ => ⟨S512x512, .f32⟩
  | .hbm, ⟨65, _⟩ => ⟨S512x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Kernel5.lean ====
abbrev S16896x1024 : Shape := ⟨2, ![16896, 1024]⟩
abbrev S1024 : Shape := ⟨1, ![1024]⟩
abbrev S1024x4112 : Shape := ⟨2, ![1024, 4112]⟩
abbrev S128x3x1536 : Shape := ⟨3, ![128, 3, 1536]⟩
abbrev S1024x1024 : Shape := ⟨2, ![1024, 1024]⟩
abbrev S1024x1536 : Shape := ⟨2, ![1024, 1536]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S1x1024 : Shape := ⟨2, ![1, 1024]⟩
abbrev S16384x1024 : Shape := ⟨2, ![16384, 1024]⟩
abbrev S16384x1536 : Shape := ⟨2, ![16384, 1536]⟩
abbrev S16384x128 : Shape := ⟨2, ![16384, 128]⟩
abbrev S16384x512 : Shape := ⟨2, ![16384, 512]⟩
abbrev S512x1024 : Shape := ⟨2, ![512, 1024]⟩
abbrev S512x1536 : Shape := ⟨2, ![512, 1536]⟩
abbrev S512x128 : Shape := ⟨2, ![512, 128]⟩
abbrev S512x512 : Shape := ⟨2, ![512, 512]⟩
abbrev S256x1024 : Shape := ⟨2, ![256, 1024]⟩
abbrev S256x1536 : Shape := ⟨2, ![256, 1536]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S8x2048x1536 : Shape := ⟨3, ![8, 2048, 1536]⟩
abbrev S128x4x1536 : Shape := ⟨3, ![128, 4, 1536]⟩
abbrev S8x3x1536 : Shape := ⟨3, ![8, 3, 1536]⟩
abbrev S8x2051x1536 : Shape := ⟨3, ![8, 2051, 1536]⟩
abbrev S128x7x1536 : Shape := ⟨3, ![128, 7, 1536]⟩

abbrev nBuf : Space → Nat
  | .hbm => 35
  | .vmem => 33
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x4112, .f32⟩
  | .hbm, ⟨3, _⟩ => ⟨S128x3x1536, .f32⟩
  | .hbm, ⟨4, _⟩ => ⟨S1024x4112, .bf16⟩
  | .hbm, ⟨5, _⟩ => ⟨S1024x1024, .bf16⟩
  | .hbm, ⟨6, _⟩ => ⟨S1024x1536, .bf16⟩
  | .hbm, ⟨7, _⟩ => ⟨S1024x16, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S_, .i32⟩
  | .hbm, ⟨12, _⟩ => ⟨S_, .bf16⟩
  | .hbm, ⟨13, _⟩ => ⟨S1024x128, .bf16⟩
  | .hbm, ⟨14, _⟩ => ⟨S1x1024, .f32⟩
  | .hbm, ⟨15, _⟩ => ⟨S16384x1024, .f32⟩
  | .hbm, ⟨16, _⟩ => ⟨S16384x1536, .f32⟩
  | .hbm, ⟨17, _⟩ => ⟨S16384x128, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S512x1024, .f32⟩
  | .hbm, ⟨22, _⟩ => ⟨S512x1536, .f32⟩
  | .hbm, ⟨23, _⟩ => ⟨S512x128, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S8x2048x1536, .f32⟩
  | .hbm, ⟨28, _⟩ => ⟨S128x4x1536, .f32⟩
  | .hbm, ⟨29, _⟩ => ⟨S_, .f32⟩
  | .hbm, ⟨30, _⟩ => ⟨S8x3x1536, .f32⟩
  | .hbm, ⟨31, _⟩ => ⟨S8x2051x1536, .f32⟩
  | .hbm, ⟨32, _⟩ => ⟨S8x3x1536, .f32⟩
  | .hbm, ⟨33, _⟩ => ⟨S128x7x1536, .f32⟩
  | .hbm, ⟨34, _⟩ => ⟨S128x3x1536, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S256x1024, .f32⟩
  | .local _ .vmem, ⟨10, _⟩ => ⟨S256x1024, .f32⟩
  | .local _ .vmem, ⟨11, _⟩ => ⟨S256x1536, .f32⟩
  | .local _ .vmem, ⟨12, _⟩ => ⟨S256x1536, .f32⟩
  | .local _ .vmem, ⟨13, _⟩ => ⟨S256x128, .f32⟩
  | .local _ .vmem, ⟨14, _⟩ => ⟨S256x128, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .f32⟩
  | .local _ .vmem, ⟨22, _⟩ => ⟨S256x1024, .f32⟩
  | .local _ .vmem, ⟨23, _⟩ => ⟨S256x1536, .f32⟩
  | .local _ .vmem, ⟨24, _⟩ => ⟨S256x1536, .f32⟩
  | .local _ .vmem, ⟨25, _⟩ => ⟨S256x128, .f32⟩
  | .local _ .vmem, ⟨26, _⟩ => ⟨S256x128, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev main_v9_7 : Ref sig .tc := ⟨.hbm, 22, rfl⟩
abbrev main_v9_8 : Ref sig .tc := ⟨.hbm, 23, rfl⟩
abbrev main_v9_9 : Ref sig .tc := ⟨.hbm, 24, rfl⟩
abbrev main_v9_10 : Ref sig .tc := ⟨.hbm, 25, rfl⟩
abbrev main_v9_11 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c64_i32 : BitVec 32 := 64#32
  let v16 : BitVec 1 := Scalar.cmpi .slt arg0 c64_i32
  let v17 : BitVec 32 := Scalar.extui v16
  let c0_i32 : BitVec 32 := 0#32
  let v18 : BitVec 1 := Scalar.cmpi .ne v17 c0_i32
  v18

def k0_cond2 (i : grid0.Coords) : BitVec 1 :=
  let arg0 : BitVec 32 := BitVec.ofNat 32 (i 0).val
  let c64_i32_5 : BitVec 32 := 64#32
  let v19 : BitVec 1 := Scalar.cmpi .sge arg0 c64_i32_5
  let v20 : BitVec 32 := Scalar.extui v19
  let c0_i32_6 : BitVec 32 := 0#32
  let v21 : BitVec 1 := Scalar.cmpi .ne v20 c0_i32_6
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S16896x1024 : Shape := ⟨2, ![16896, 1024]⟩
abbrev S1024 : Shape := ⟨1, ![1024]⟩
abbrev S1024x4112 : Shape := ⟨2, ![1024, 4112]⟩
abbrev S128x3x1536 : Shape := ⟨3, ![128, 3, 1536]⟩
abbrev S16384x1024 : Shape := ⟨2, ![16384, 1024]⟩
abbrev S8x2048x1024 : Shape := ⟨3, ![8, 2048, 1024]⟩
abbrev S512x1024 : Shape := ⟨2, ![512, 1024]⟩
abbrev S128x4x1024 : Shape := ⟨3, ![128, 4, 1024]⟩
abbrev S_ : Shape := ⟨0, ![]⟩
abbrev S8x3x1536 : Shape := ⟨3, ![8, 3, 1536]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4112 : Shape := ⟨3, ![8, 2048, 4112]⟩
abbrev S8x2048x1536 : Shape := ⟨3, ![8, 2048, 1536]⟩
abbrev S8x2048x16 : Shape := ⟨3, ![8, 2048, 16]⟩
abbrev S8x2048x512 : Shape := ⟨3, ![8, 2048, 512]⟩
abbrev S8x2051x1536 : Shape := ⟨3, ![8, 2051, 1536]⟩
abbrev S8x2048x128 : Shape := ⟨3, ![8, 2048, 128]⟩
abbrev S16384x1536 : Shape := ⟨2, ![16384, 1536]⟩
abbrev S16384x128 : Shape := ⟨2, ![16384, 128]⟩
abbrev S16384x512 : Shape := ⟨2, ![16384, 512]⟩
abbrev S128x4 : Shape := ⟨2, ![128, 4]⟩
abbrev S128x4x1 : Shape := ⟨3, ![128, 4, 1]⟩
abbrev S128x4x4112 : Shape := ⟨3, ![128, 4, 4112]⟩
abbrev S128x4x1536 : Shape := ⟨3, ![128, 4, 1536]⟩
abbrev S128x4x16 : Shape := ⟨3, ![128, 4, 16]⟩
abbrev S128x4x512 : Shape := ⟨3, ![128, 4, 512]⟩
abbrev S128x7x1536 : Shape := ⟨3, ![128, 7, 1536]⟩
abbrev S128x4x128 : Shape := ⟨3, ![128, 4, 128]⟩
abbrev S512x1536 : Shape := ⟨2, ![512, 1536]⟩
abbrev S512x128 : Shape := ⟨2, ![512, 128]⟩
abbrev S512x512 : Shape := ⟨2, ![512, 512]⟩

abbrev nBuf : Space → Nat
  | .hbm => 78
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x4112, .f32⟩
  | .hbm, ⟨3, _⟩ => ⟨S128x3x1536, .f32⟩
  | .hbm, ⟨4, _⟩ => ⟨S16384x1024, .f32⟩
  | .hbm, ⟨5, _⟩ => ⟨S8x2048x1024, .f32⟩
  | .hbm, ⟨6, _⟩ => ⟨S512x1024, .f32⟩
  | .hbm, ⟨7, _⟩ => ⟨S128x4x1024, .f32⟩
  | .hbm, ⟨8, _⟩ => ⟨S_, .f32⟩
  | .hbm, ⟨9, _⟩ => ⟨S8x3x1536, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x4112, .f32⟩
  | .hbm, ⟨27, _⟩ => ⟨S8x2048x1024, .f32⟩
  | .hbm, ⟨28, _⟩ => ⟨S8x2048x1536, .f32⟩
  | .hbm, ⟨29, _⟩ => ⟨S8x2048x16, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2051x1536, .f32⟩
  | .hbm, ⟨34, _⟩ => ⟨S8x3x1536, .f32⟩
  | .hbm, ⟨35, _⟩ => ⟨S_, .i32⟩
  | .hbm, ⟨36, _⟩ => ⟨S_, .f32⟩
  | .hbm, ⟨37, _⟩ => ⟨S8x2048x128, .f32⟩
  | .hbm, ⟨38, _⟩ => ⟨S16384x1024, .f32⟩
  | .hbm, ⟨39, _⟩ => ⟨S16384x1536, .f32⟩
  | .hbm, ⟨40, _⟩ => ⟨S16384x128, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S128x4x1024, .f32⟩
  | .hbm, ⟨45, _⟩ => ⟨S_, .f32⟩
  | .hbm, ⟨46, _⟩ => ⟨S128x4, .f32⟩
  | .hbm, ⟨47, _⟩ => ⟨S128x4x1, .f32⟩
  | .hbm, ⟨48, _⟩ => ⟨S_, .f32⟩
  | .hbm, ⟨49, _⟩ => ⟨S128x4x1, .f32⟩
  | .hbm, ⟨50, _⟩ => ⟨S128x4x1, .f32⟩
  | .hbm, ⟨51, _⟩ => ⟨S_, .f32⟩
  | .hbm, ⟨52, _⟩ => ⟨S128x4x1, .f32⟩
  | .hbm, ⟨53, _⟩ => ⟨S128x4x1, .f32⟩
  | .hbm, ⟨54, _⟩ => ⟨S128x4x1, .f32⟩
  | .hbm, ⟨55, _⟩ => ⟨S128x4x1024, .f32⟩
  | .hbm, ⟨56, _⟩ => ⟨S128x4x1024, .f32⟩
  | .hbm, ⟨57, _⟩ => ⟨S1x1x1024, .f32⟩
  | .hbm, ⟨58, _⟩ => ⟨S128x4x1024, .f32⟩
  | .hbm, ⟨59, _⟩ => ⟨S128x4x1024, .f32⟩
  | .hbm, ⟨60, _⟩ => ⟨S128x4x4112, .f32⟩
  | .hbm, ⟨61, _⟩ => ⟨S128x4x1024, .f32⟩
  | .hbm, ⟨62, _⟩ => ⟨S128x4x1536, .f32⟩
  | .hbm, ⟨63, _⟩ => ⟨S128x4x16, .f32⟩
  | .hbm, ⟨64, _⟩ => ⟨S128x4x512, .f32⟩
  | .hbm, ⟨65, _⟩ => ⟨S128x4x512, .f32⟩
  | .hbm, ⟨66, _⟩ => ⟨S128x4x512, .f32⟩
  | .hbm, ⟨67, _⟩ => ⟨S128x7x1536, .f32⟩
  | .hbm, ⟨68, _⟩ => ⟨S128x3x1536, .f32⟩
  | .hbm, ⟨69, _⟩ => ⟨S_, .i32⟩
  | .hbm, ⟨70, _⟩ => ⟨S_, .f32⟩
  | .hbm, ⟨71, _⟩ => ⟨S128x4x128, .f32⟩
  | .hbm, ⟨72, _⟩ => ⟨S512x1024, .f32⟩
  | .hbm, ⟨73, _⟩ => ⟨S512x1536, .f32⟩
  | .hbm, ⟨74, _⟩ => ⟨S512x128, .f32⟩
  | .hbm, ⟨75, _⟩ => ⟨S512x512, .f32⟩
  | .hbm, ⟨76, _⟩ => ⟨S512x512, .f32⟩
  | .hbm, ⟨77, _⟩ => ⟨S512x512, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_6 : Ref sig .tc := ⟨.hbm, 69, rfl⟩
abbrev main_call1_v0 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel6.lean ====
abbrev S16384x1024 : Shape := ⟨2, ![16384, 1024]⟩
abbrev S512x1024 : Shape := ⟨2, ![512, 1024]⟩
abbrev S1024x1024 : Shape := ⟨2, ![1024, 1024]⟩
abbrev S16896x1024 : Shape := ⟨2, ![16896, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1024x1024, .f32⟩
  | .hbm, ⟨3, _⟩ => ⟨S16896x1024, .f32⟩
  | .hbm, ⟨4, _⟩ => ⟨S16896x1024, .f32⟩
  | .hbm, ⟨5, _⟩ => ⟨S16896x1024, .bf16⟩
  | .hbm, ⟨6, _⟩ => ⟨S1024x1024, .bf16⟩
  | .hbm, ⟨7, _⟩ => ⟨S16896x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S16384x1024 : Shape := ⟨2, ![16384, 1024]⟩
abbrev S512x1024 : Shape := ⟨2, ![512, 1024]⟩
abbrev S1024x1024 : Shape := ⟨2, ![1024, 1024]⟩
abbrev S16896x1024 : Shape := ⟨2, ![16896, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S1024x1024, .f32⟩
  | .hbm, ⟨3, _⟩ => ⟨S16896x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S16896x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Decay.Spec.lean ====
/-
  One head of the chunked decay recurrence as plain functions into the extended reals: the running sum of the log decays
  within a chunk of 128 positions, the decay from one position to a later one, a chunk's outputs and the state after it.
-/
module

public import Idealize.ShloMosaic.Lib.Pointwise

@[expose] public section

noncomputable section

namespace Cert.Decay

open Idealize.ShloMosaic

/-- The sum of the log decays up to and including position `i`. -/
def cum (l : Fin 128 → EReal) (i : Fin 128) : EReal := ∑ j, if j ≤ i then l j else 0

/-- The decay from position `j` to position `i`: nothing passes backwards. -/
def dec (l : Fin 128 → EReal) (i j : Fin 128) : EReal := if j ≤ i then Ideal.exp (cum l i - cum l j) else 0

/-- The chunk's output at position `i`, column `x`: the masked products within the chunk, then what the state brings in. -/
def outC (q k : Fin 128 → Fin 128 → EReal) (v : Fin 128 → Fin 64 → EReal) (l : Fin 128 → EReal)
    (S : Fin 128 → Fin 64 → EReal) (i : Fin 128) (x : Fin 64) : EReal :=
  (∑ j, (∑ d, q i d * k j d) * dec l i j * v j x) + ∑ d, q i d * Ideal.exp (cum l i) * S d x

/-- The state after the chunk: the old one decayed over the whole chunk, plus each position's key and value decayed to its end. -/
def stC (k : Fin 128 → Fin 128 → EReal) (v : Fin 128 → Fin 64 → EReal) (l : Fin 128 → EReal)
    (S : Fin 128 → Fin 64 → EReal) (d : Fin 128) (x : Fin 64) : EReal :=
  Ideal.exp (cum l 127) * S d x + ∑ j, k j d * Ideal.exp (cum l 127 - cum l j) * v j x

/-- "Position `i` is not before position `j`" as the 32-bit signed comparison of their numbers. -/
theorem sge_eq (i j : Fin 128) :
    IntOp.cmpi .sge (BitVec.ofNat 32 i.val) (BitVec.ofNat 32 j.val) = if j ≤ i then 1#1 else 0#1 := by
  revert i j; decide +kernel

/-- The same comparison written the other way round. -/
theorem sle_eq (i j : Fin 128) :
    IntOp.cmpi .sle (BitVec.ofNat 32 j.val) (BitVec.ofNat 32 i.val) = if j ≤ i then 1#1 else 0#1 := by
  revert i j; decide +kernel

/-- A bit widened to a word and read as a number is 0 or 1; times a value it keeps the value or drops it. -/
theorem bit_mul (p : Prop) [Decidable p] (b : BitVec 1) (hb : b = if p then 1#1 else 0#1) (x : EReal) :
    (FloatOps.sitofp (F := Ideal) FTy.f32 (BitVec.setWidth 32 b) : EReal) * x = if p then x else 0 := by
  subst hb
  by_cases h : p
  · simp only [h, if_true]
    show (((BitVec.setWidth 32 1#1).toInt : ℝ) : EReal) * x = x
    have : (BitVec.setWidth 32 1#1).toInt = 1 := by decide
    rw [this]; simp
  · simp only [h, if_false]
    show (((BitVec.setWidth 32 0#1).toInt : ℝ) : EReal) * x = 0
    have : (BitVec.setWidth 32 0#1).toInt = 0 := by decide
    rw [this]; simp

end Cert.Decay
-- ==== Proof.Decay.Head.lean ====
/-
  One head of the decay kernel's body at one grid point, read as the plain functions of `Spec.lean`: `headO` is what the
  body stores into the head's columns of the output block, `headS` what it stores into the head's slab of the state.
-/
module

public import proofs.«01_k».proof.Proof.Gen.KernelIdeal.Skeleton
public import proofs.«01_k».proof.Proof.Decay.Spec
public import Idealize.ShloMosaic.Lib.Pipeline.ValueKit
public import Idealize.ShloMosaic.Lib.Pipeline.ReadBack

@[expose] public section

noncomputable section

namespace Cert.Decay

open Cert.KernelIdeal Cert.KernelIdeal.Gen Idealize.ShloMosaic

variable {F : FTy → Type} [FloatOps F]

/-- One head's output block, from its column and its row of the running sums, its group's queries and keys, its values
    and its slab of the state. -/
def headO (cc : FVec F S128x1 .f32) (cr : FVec F S1x128 .f32) (q k : Vec F S1x128x128 .f32)
    (v s : Vec F S1x128x64 .f32) : FVec F S1x128x64 .f32 :=
  have qm : FVec F S128x128 .f32 := shapeCast S128x128 q shapeCasts_S1x128x128_S128x128
  have km : FVec F S128x128 .f32 := shapeCast S128x128 k shapeCasts_S1x128x128_S128x128
  have vm : FVec F S128x64 .bf16 := truncf .bf16 (shapeCast S128x64 v shapeCasts_S1x128x64_S128x64) bitsLt_bf16_f32
  have sm : FVec F S128x64 .f32 := shapeCast S128x64 s shapeCasts_S1x128x64_S128x64
  have z : FVec F S128x64 .f32 := constant S128x64 .f32 0x00000000#32
  have z2 : FVec F S128x128 .f32 := constant S128x128 .f32 0x00000000#32
  have qk : FVec F S128x128 .f32 := matmul dot_S128x128_S128x128_S128x128_1_1_0_0_n_n none
    (truncf .bf16 qm bitsLt_bf16_f32) (truncf .bf16 km bitsLt_bf16_f32) z2
  have z3 : FVec F S128x128 .f32 := broadcast S128x128 (Scalar.ofBits .f32 0x00000000#32)
  have d : FVec F S128x128 .f32 := subf (broadcastTo S128x128 cc broadcasts_S128x1_S128x128)
    (broadcastTo S128x128 cr broadcasts_S1x128_S128x128)
  have g : FVec F S128x128 .f32 := select k0_pay5 (exp (select k0_pay5 d z3)) z3
  have a : FVec F S128x64 .f32 := matmul dot_S128x128_S128x64_S128x64_1_0_0_1_n_n none
    (truncf .bf16 (mulf qk g) bitsLt_bf16_f32) vm z
  have b : FVec F S128x64 .f32 := matmul dot_S128x128_S128x64_S128x64_1_0_0_1_n_n none
    (truncf .bf16 (mulf qm (broadcastTo S128x128 (exp cc) broadcasts_S128x1_S128x128)) bitsLt_bf16_f32)
    (truncf .bf16 sm bitsLt_bf16_f32) z
  shapeCast S1x128x64 (addf a b) shapeCasts_S128x64_S1x128x64

/-- One head's new state, from its last running sum, its column of the running sums, its group's keys, its values and its
    slab of the old state. -/
def headS (last : FVec F S1x1 .f32) (cc : FVec F S128x1 .f32) (k : Vec F S1x128x128 .f32)
    (v s : Vec F S1x128x64 .f32) : FVec F S1x128x64 .f32 :=
  have km : FVec F S128x128 .f32 := shapeCast S128x128 k shapeCasts_S1x128x128_S128x128
  have vm : FVec F S128x64 .bf16 := truncf .bf16 (shapeCast S128x64 v shapeCasts_S1x128x64_S128x64) bitsLt_bf16_f32
  have sm : FVec F S128x64 .f32 := shapeCast S128x64 s shapeCasts_S1x128x64_S128x64
  have z : FVec F S128x64 .f32 := constant S128x64 .f32 0x00000000#32
  have e : FVec F S128x1 .f32 := exp (subf (broadcastTo S128x1 last broadcasts_S1x1_S128x1) cc)
  have kd : FVec F S128x128 .bf16 :=
    truncf .bf16 (mulf km (broadcastTo S128x128 e broadcasts_S128x1_S128x128)) bitsLt_bf16_f32
  have a : FVec F S128x64 .f32 := mulf (broadcastTo S128x64 (exp last) broadcasts_S1x1_S128x64) sm
  have b : FVec F S128x64 .f32 := matmul dot_S128x128_S128x64_S128x64_0_0_1_1_n_n none kd vm z
  shapeCast S1x128x64 (addf a b) shapeCasts_S128x64_S1x128x64

/-- The running sums the body computes by a product with the lower-triangular ones are the sums of `Spec.lean`. -/
theorem cum_cols (la : Vec Ideal S1x128x16 .f32) (i : Fin 128) (h : Fin 16) :
    k0_pay6 la (ix2 i h) = cum (fun j => la (ix3 0 j h)) i := by
  pointwise [k0_pay6, k0_pay5]
  exact Finset.sum_congr rfl fun j _ => bit_mul _ _ (sge_eq i j) _

/-- The same sums computed along rows, from the transposed log decays. -/
theorem cum_rows (lat : Vec Ideal S1x16x128 .f32) (i : Fin 128) (h : Fin 16) :
    k0_pay7 lat (ix2 h i) = cum (fun j => lat (ix3 0 h j)) i := by
  pointwise [k0_pay7]
  exact Finset.sum_congr rfl fun j _ => (mul_comm _ _).trans (bit_mul _ _ (sle_eq i j) _)

/-- The head's output block at position `i`, column `x`, is the chunk output of `Spec.lean`. -/
theorem headO_apply (cc : FVec Ideal S128x1 .f32) (cr : FVec Ideal S1x128 .f32) (q k : Vec Ideal S1x128x128 .f32)
    (v s : Vec Ideal S1x128x64 .f32) (l : Fin 128 → EReal) (hc : ∀ i, cc (ix2 i 0) = cum l i)
    (hr : ∀ i, cr (ix2 0 i) = cum l i) (i : Fin 128) (x : Fin 64) :
    headO cc cr q k v s (ix3 0 i x) = outC (fun i d => q (ix3 0 i d)) (fun j d => k (ix3 0 j d))
      (fun j x => v (ix3 0 j x)) l (fun d x => s (ix3 0 d x)) i x := by
  pointwise [headO, k0_pay5]
  simp only [hc, hr, sge_eq]
  unfold outC dec
  refine congrArg₂ (· + ·) (Finset.sum_congr rfl fun j _ => ?_) rfl
  by_cases h : j ≤ i
  · simp only [h, if_true]; rfl
  · simp only [h, if_false, mul_zero, zero_mul]; rfl

/-- The head's new state at row `d`, column `x`, is the state update of `Spec.lean`. -/
theorem headS_apply (last : FVec Ideal S1x1 .f32) (cc : FVec Ideal S128x1 .f32) (k : Vec Ideal S1x128x128 .f32)
    (v s : Vec Ideal S1x128x64 .f32) (l : Fin 128 → EReal) (hc : ∀ i, cc (ix2 i 0) = cum l i)
    (hl : last (ix2 0 0) = cum l 127) (d : Fin 128) (x : Fin 64) :
    headS last cc k v s (ix3 0 d x) = stC (fun j d => k (ix3 0 j d))
      (fun j x => v (ix3 0 j x)) l (fun d x => s (ix3 0 d x)) d x := by
  pointwise [headS]
  simp only [hc, hl]
  rfl

end Cert.Decay
-- ==== Proof.Decay.Block.lean ====
/-
  What one grid point of the decay kernel leaves in its output block and in the carried state: sixteen stores each, one a
  head, read as ONE function of the point's input blocks and the state it finds.
-/
module

public import proofs.«01_k».proof.Proof.Decay.Head

@[expose] public section

noncomputable section

namespace Cert.Decay

open Cert.KernelIdeal Cert.KernelIdeal.Gen Idealize.ShloMosaic

/-- The output of a chunk at position `i`, column `c`: the column belongs to head `c / 64`, whose keys and queries are its
    group's. -/
def goAt (q k : Vec Ideal S1x128x256 .f32) (v : Vec Ideal S1x128x1024 .f32) (la : Vec Ideal S1x128x16 .f32)
    (st : Vec Ideal S16x128x64 .f32) (h : Fin 16) (i : Fin 128) (x : Fin 64) : EReal :=
  outC (fun i d => q (ix3 0 i ⟨128 * (h.val / 8) + d.val, by omega⟩))
    (fun j d => k (ix3 0 j ⟨128 * (h.val / 8) + d.val, by omega⟩))
    (fun j x => v (ix3 0 j ⟨64 * h.val + x.val, by omega⟩))
    (fun j => la (ix3 0 j h)) (fun d x => st (ix3 h d x)) i x

/-- The output block of a chunk, all sixteen heads. -/
def GO (q k : Vec Ideal S1x128x256 .f32) (v : Vec Ideal S1x128x1024 .f32) (la : Vec Ideal S1x128x16 .f32)
    (st : Vec Ideal S16x128x64 .f32) : Vec Ideal S1x128x1024 .f32 := fun y =>
  goAt q k v la st (⟨(y 2).val / 64, by have : (y 2).val < 1024 := (y 2).isLt; omega⟩ : Fin 16) (y 1)
    (⟨(y 2).val % 64, Nat.mod_lt _ (by decide)⟩ : Fin 64)

/-- The state of head `h` after a chunk, at row `d`, column `x`. -/
def gsAt (k : Vec Ideal S1x128x256 .f32) (v : Vec Ideal S1x128x1024 .f32) (la : Vec Ideal S1x128x16 .f32)
    (st : Vec Ideal S16x128x64 .f32) (h : Fin 16) (d : Fin 128) (x : Fin 64) : EReal :=
  stC (fun j d => k (ix3 0 j ⟨128 * (h.val / 8) + d.val, by omega⟩))
    (fun j x => v (ix3 0 j ⟨64 * h.val + x.val, by omega⟩))
    (fun j => la (ix3 0 j h)) (fun d x => st (ix3 h d x)) d x

/-- The state after a chunk, all sixteen heads. -/
def GS (k : Vec Ideal S1x128x256 .f32) (v : Vec Ideal S1x128x1024 .f32) (la : Vec Ideal S1x128x16 .f32)
    (st : Vec Ideal S16x128x64 .f32) : Vec Ideal S16x128x64 .f32 := fun y => gsAt k v la st (y 0) (y 1) (y 2)

theorem sl_col (h : Fin 16) : S128x16.Slices ![0, h.val] S128x1 := by revert h; decide
theorem sl_row (h : Fin 16) : S16x128.Slices ![h.val, 0] S1x128 := by revert h; decide
theorem sl_last (h : Fin 16) : S128x16.Slices ![127, h.val] S1x1 := by revert h; decide
theorem inb_qk (h : Fin 16) : ∀ a, (![0, 0, 128 * (h.val / 8)] : Fin 3 → ℕ) a + (![1, 128, 128] : Fin 3 → ℕ) a ≤ S1x128x256.size a := by
  revert h; decide
theorem inb_v (h : Fin 16) : ∀ a, (![0, 0, 64 * h.val] : Fin 3 → ℕ) a + (![1, 128, 64] : Fin 3 → ℕ) a ≤ S1x128x1024.size a := by
  revert h; decide
theorem inb_s (h : Fin 16) : ∀ a, (![h.val, 0, 0] : Fin 3 → ℕ) a + (![1, 128, 64] : Fin 3 → ℕ) a ≤ S16x128x64.size a := by
  revert h; decide

variable {F : FTy → Type} [FloatOps F]

/-- Head `h`'s store into the output block. -/
def entO (q k : Vec F S1x128x256 .f32) (v : Vec F S1x128x1024 .f32) (la : Vec F S1x128x16 .f32) (lat : Vec F S1x16x128 .f32)
    (st : Vec F S16x128x64 .f32) (h : Fin 16) : View.Piece (Elt F) S1x128x1024 .f32 :=
  ⟨Rect.unit ![0, 0, 64 * h.val] ![1, 128, 64] (inb_v h),
    headO (extractStridedSlice S128x1 ![0, h.val] (k0_pay6 la) (sl_col h))
      (extractStridedSlice S1x128 ![h.val, 0] (k0_pay7 lat) (sl_row h))
      (View.ld q (Rect.unit ![0, 0, 128 * (h.val / 8)] ![1, 128, 128] (inb_qk h)))
      (View.ld k (Rect.unit ![0, 0, 128 * (h.val / 8)] ![1, 128, 128] (inb_qk h)))
      (View.ld v (Rect.unit ![0, 0, 64 * h.val] ![1, 128, 64] (inb_v h)))
      (View.ld st (Rect.unit ![h.val, 0, 0] ![1, 128, 64] (inb_s h)))⟩

/-- Head `h`'s store into the state. -/
def entS (k : Vec F S1x128x256 .f32) (v : Vec F S1x128x1024 .f32) (la : Vec F S1x128x16 .f32)
    (st : Vec F S16x128x64 .f32) (h : Fin 16) : View.Piece (Elt F) S16x128x64 .f32 :=
  ⟨Rect.unit ![h.val, 0, 0] ![1, 128, 64] (inb_s h),
    headS (extractStridedSlice S1x1 ![127, h.val] (k0_pay6 la) (sl_last h))
      (extractStridedSlice S128x1 ![0, h.val] (k0_pay6 la) (sl_col h))
      (View.ld k (Rect.unit ![0, 0, 128 * (h.val / 8)] ![1, 128, 128] (inb_qk h)))
      (View.ld v (Rect.unit ![0, 0, 64 * h.val] ![1, 128, 64] (inb_v h)))
      (View.ld st (Rect.unit ![h.val, 0, 0] ![1, 128, 64] (inb_s h)))⟩

/-- The heads, last stored first. -/
abbrev hs : List (Fin 16) := [15, 14, 13, 12, 11, 10, 9, 8, 7, 6, 5, 4, 3, 2, 1, 0]

theorem mem_hs (h : Fin 16) : h ∈ hs := by revert h; decide

/-- The sixteen output stores, last first. -/
abbrev listO (q k : Vec F S1x128x256 .f32) (v : Vec F S1x128x1024 .f32) (la : Vec F S1x128x16 .f32) (lat : Vec F S1x16x128 .f32)
    (st : Vec F S16x128x64 .f32) : List (View.Piece (Elt F) S1x128x1024 .f32) := hs.map (entO q k v la lat st)

/-- The sixteen state stores, last first. -/
abbrev listS (k : Vec F S1x128x256 .f32) (v : Vec F S1x128x1024 .f32) (la : Vec F S1x128x16 .f32)
    (st : Vec F S16x128x64 .f32) : List (View.Piece (Elt F) S16x128x64 .f32) := hs.map (entS k v la st)

theorem ld_qk (X : Vec Ideal S1x128x256 .f32) (h : Fin 16) (i d : Fin 128) (p) :
    View.ld X (Rect.unit ![0, 0, 128 * (h.val / 8)] ![1, 128, 128] (inb_qk h)) (ix3 (n0 := 1) (n1 := 128) (n2 := 128) 0 i d)
      = X (ix3 0 i ⟨128 * (h.val / 8) + d.val, p⟩) :=
  View.ld_unit_apply_of X _ _ _ _ _ fun a => by
    match a with
    | ⟨0, _⟩ => rfl
    | ⟨1, _⟩ => exact (Nat.zero_add _).symm
    | ⟨2, _⟩ => rfl

theorem ld_v (X : Vec Ideal S1x128x1024 .f32) (h : Fin 16) (i : Fin 128) (x : Fin 64) (p) :
    View.ld X (Rect.unit ![0, 0, 64 * h.val] ![1, 128, 64] (inb_v h)) (ix3 (n0 := 1) (n1 := 128) (n2 := 64) 0 i x)
      = X (ix3 0 i ⟨64 * h.val + x.val, p⟩) :=
  View.ld_unit_apply_of X _ _ _ _ _ fun a => by
    match a with
    | ⟨0, _⟩ => rfl
    | ⟨1, _⟩ => exact (Nat.zero_add _).symm
    | ⟨2, _⟩ => rfl

theorem ld_s (X : Vec Ideal S16x128x64 .f32) (h : Fin 16) (d : Fin 128) (x : Fin 64) :
    View.ld X (Rect.unit ![h.val, 0, 0] ![1, 128, 64] (inb_s h)) (ix3 (n0 := 1) (n1 := 128) (n2 := 64) 0 d x) = X (ix3 h d x) :=
  View.ld_unit_apply_of X _ _ _ _ _ fun a => by
    match a with
    | ⟨0, _⟩ => rfl
    | ⟨1, _⟩ => exact (Nat.zero_add _).symm
    | ⟨2, _⟩ => exact (Nat.zero_add _).symm

section
variable (q k : Vec Ideal S1x128x256 .f32) (v : Vec Ideal S1x128x1024 .f32) (la : Vec Ideal S1x128x16 .f32)
  (lat : Vec Ideal S1x16x128 .f32) (st : Vec Ideal S16x128x64 .f32)

theorem col_apply (h : Fin 16) (i : Fin 128) :
    extractStridedSlice S128x1 ![0, h.val] (k0_pay6 la) (sl_col h) (ix2 i 0) = cum (fun j => la (ix3 0 j h)) i := by
  rw [← cum_cols]
  unfold extractStridedSlice
  refine congrArg (k0_pay6 la) (funext fun a => Fin.ext ?_)
  match a with
  | ⟨0, _⟩ => exact Nat.zero_add _
  | ⟨1, _⟩ => rfl

theorem row_apply (hlat : ∀ (h : Fin 16) (j : Fin 128), lat (ix3 0 h j) = la (ix3 0 j h)) (h : Fin 16) (i : Fin 128) :
    extractStridedSlice S1x128 ![h.val, 0] (k0_pay7 lat) (sl_row h) (ix2 0 i) = cum (fun j => la (ix3 0 j h)) i := by
  simp only [← hlat]
  rw [← cum_rows]
  unfold extractStridedSlice
  refine congrArg (k0_pay7 lat) (funext fun a => Fin.ext ?_)
  match a with
  | ⟨0, _⟩ => rfl
  | ⟨1, _⟩ => exact Nat.zero_add _

theorem last_apply (h : Fin 16) :
    extractStridedSlice S1x1 ![127, h.val] (k0_pay6 la) (sl_last h) (ix2 0 0) = cum (fun j => la (ix3 0 j h)) 127 := by
  rw [← cum_cols]
  unfold extractStridedSlice
  refine congrArg (k0_pay6 la) (funext fun a => Fin.ext ?_)
  match a with
  | ⟨0, _⟩ => rfl
  | ⟨1, _⟩ => rfl

/-- Head `h`'s output store is a block of `GO`. -/
theorem entO_piece (hlat : ∀ (h : Fin 16) (j : Fin 128), lat (ix3 0 h j) = la (ix3 0 j h)) (h : Fin 16) :
    ∀ x : (entO q k v la lat st h).1.shape.Idx, (entO q k v la lat st h).2 x = GO q k v la st ((entO q k v la lat st h).1.emb x) := by
  intro x
  obtain ⟨i, c, rfl⟩ : ∃ (i : Fin 128) (c : Fin 64), x = ix3 (n0 := 1) (n1 := 128) (n2 := 64) 0 i c :=
    ⟨x 1, x 2, by funext a; match a with | ⟨0, _⟩ => exact Subsingleton.elim (α := Fin 1) _ _ | ⟨1, _⟩ => rfl | ⟨2, _⟩ => rfl⟩
  have e : (entO q k v la lat st h).1.emb (ix3 (n0 := 1) (n1 := 128) (n2 := 64) 0 i c)
      = ix3 0 i ⟨64 * h.val + c.val, by omega⟩ := by
    funext a; apply Fin.ext
    refine (Rect.idx_unit_val _ _ (inb_v h) _ a).trans ?_
    match a with
    | ⟨0, _⟩ => rfl
    | ⟨1, _⟩ => exact Nat.zero_add _
    | ⟨2, _⟩ => rfl
  rw [e]
  refine (headO_apply _ _ _ _ _ _ (fun j => la (ix3 0 j h)) (col_apply la h) (row_apply la lat hlat h) i c).trans ?_
  have e2 : (⟨(64 * h.val + c.val) / 64, by omega⟩ : Fin 16) = h := Fin.ext (by show (64 * h.val + c.val) / 64 = h.val; omega)
  have e3 : (⟨(64 * h.val + c.val) % 64, by omega⟩ : Fin 64) = c := Fin.ext (by show (64 * h.val + c.val) % 64 = c.val; omega)
  have e4 : GO q k v la st (ix3 0 i ⟨64 * h.val + c.val, by omega⟩) = goAt q k v la st h i c := by
    show goAt q k v la st (⟨(64 * h.val + c.val) / 64, _⟩ : Fin 16) i (⟨(64 * h.val + c.val) % 64, _⟩ : Fin 64) = _
    rw [e2, e3]
  rw [e4]
  unfold goAt
  congr 1
  · funext i d; exact ld_qk q h i d _
  · funext i d; exact ld_qk k h i d _
  · funext i d; exact ld_v v h i d _
  · funext d x; exact ld_s st h d x

/-- Head `h`'s state store is a block of `GS`. -/
theorem entS_piece (h : Fin 16) :
    ∀ x : (entS k v la st h).1.shape.Idx, (entS k v la st h).2 x = GS k v la st ((entS k v la st h).1.emb x) := by
  intro x
  obtain ⟨i, c, rfl⟩ : ∃ (i : Fin 128) (c : Fin 64), x = ix3 (n0 := 1) (n1 := 128) (n2 := 64) 0 i c :=
    ⟨x 1, x 2, by funext a; match a with | ⟨0, _⟩ => exact Subsingleton.elim (α := Fin 1) _ _ | ⟨1, _⟩ => rfl | ⟨2, _⟩ => rfl⟩
  have e : (entS k v la st h).1.emb (ix3 (n0 := 1) (n1 := 128) (n2 := 64) 0 i c) = ix3 h i c := by
    funext a; apply Fin.ext
    refine (Rect.idx_unit_val _ _ (inb_s h) _ a).trans ?_
    match a with
    | ⟨0, _⟩ => rfl
    | ⟨1, _⟩ => exact Nat.zero_add _
    | ⟨2, _⟩ => exact Nat.zero_add _
  rw [e]
  refine (headS_apply _ _ _ _ _ (fun j => la (ix3 0 j h)) (col_apply la h) (last_apply la h) i c).trans ?_
  show _ = gsAt k v la st h i c
  unfold gsAt
  congr 1
  · funext i d; exact ld_qk k h i d _
  · funext i d; exact ld_v v h i d _
  · funext d x; exact ld_s st h d x

/-- The sixteen output stores leave `GO`. -/
theorem canon_listO (hlat : ∀ (h : Fin 16) (j : Fin 128), lat (ix3 0 h j) = la (ix3 0 j h)) :
    View.canon (listO q k v la lat st) = GO q k v la st := by
  funext y
  refine View.canon_apply_of_pieces (GO q k v la st) _ ?_ y ?_
  · intro p hp
    obtain ⟨h, -, rfl⟩ := List.mem_map.mp hp
    exact entO_piece q k v la lat st hlat h
  · have hy : (y 2).val < 1024 := (y 2).isLt
    refine ⟨_, List.mem_map_of_mem (mem_hs ⟨(y 2).val / 64, by omega⟩), ?_⟩
    show y ∈ (Rect.unit ![0, 0, 64 * ((y 2).val / 64)] ![1, 128, 64] (inb_v ⟨(y 2).val / 64, by omega⟩)).set
    rw [Rect.mem_set_unit]
    intro a
    match a with
    | ⟨0, _⟩ => exact ⟨Nat.zero_le _, (y 0).isLt⟩
    | ⟨1, _⟩ => exact ⟨Nat.zero_le _, lt_of_lt_of_eq (y 1).isLt (Nat.zero_add 128).symm⟩
    | ⟨2, _⟩ =>
      show 64 * ((y 2).val / 64) ≤ (y 2).val ∧ (y 2).val < 64 * ((y 2).val / 64) + 64
      omega

/-- The sixteen state stores, over anything stored before them, leave `GS`. -/
theorem canon_listS (L : List (View.Piece (Elt Ideal) S16x128x64 .f32)) :
    View.canon (listS k v la st ++ L) = GS k v la st := by
  funext y
  refine View.canon_append_of_pieces (GS k v la st) L _ ?_ y ?_
  · intro p hp
    obtain ⟨h, -, rfl⟩ := List.mem_map.mp hp
    exact entS_piece k v la st h
  · refine ⟨_, List.mem_map_of_mem (mem_hs (y 0)), ?_⟩
    show y ∈ (Rect.unit ![(y 0).val, 0, 0] ![1, 128, 64] (inb_s (y 0))).set
    rw [Rect.mem_set_unit]
    intro a
    match a with
    | ⟨0, _⟩ => exact ⟨le_refl _, Nat.lt_succ_self _⟩
    | ⟨1, _⟩ => exact ⟨Nat.zero_le _, lt_of_lt_of_eq (y 1).isLt (Nat.zero_add 128).symm⟩
    | ⟨2, _⟩ => exact ⟨Nat.zero_le _, lt_of_lt_of_eq (y 2).isLt (Nat.zero_add 64).symm⟩

end

end Cert.Decay
-- ==== Proof.Decay.Point.lean ====
/-
  The decay kernel at one grid point, in each of its three cases (the first chunk of a sequence, which loads the initial
  state; a chunk in the middle; the last chunk, which also stores the state): the output block and the carried state.
-/
module

public import proofs.«01_k».proof.Proof.Decay.Block
public import proofs.«01_k».proof.Proof.Gen.KernelIdeal.Frame

@[expose] public section

noncomputable section

namespace Cert.Decay

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The transposed log decays of the point are its log decays, transposed. -/
def LatOk : Prop := ∀ (h : Fin 16) (j : Fin 128),
  (iblk m c 4 t : Vec Ideal S1x16x128 .f32) (ix3 0 h j) = (iblk m c 3 t : Vec Ideal S1x128x16 .f32) (ix3 0 j h)

/-- A load of a whole rank-3 array after the writes `L` reads the function the writes make up. -/
theorem readCov_whole {d : Fin 3 → ℕ} {sig : RefSig} {κ : Kind} {sp : Space} (v : View sig κ sp ⟨3, d⟩ .f32)
    {L : List (View.Piece (Elt Idealize.ShloMosaic.Ideal) (⟨3, d⟩ : Shape) .f32)} {G : (⟨3, d⟩ : Shape).Idx → Idealize.ShloMosaic.Ideal .f32}
    (h : View.canon L = G) (inb : ∀ a, (![0, 0, 0] : Fin 3 → ℕ) a + d a ≤ d a) :
    v.readCov L (Rect.unit (s := ⟨3, d⟩) ![0, 0, 0] d inb).toLoadRect = G := by
  rw [View.readCov_eq_canon', ← h]
  refine funext fun j => congrArg (View.canon L) (funext fun a => Fin.ext ?_)
  refine (Rect.idx_unit_val _ _ inb _ a).trans ?_
  fin_cases a <;> exact Nat.zero_add _

set_option maxHeartbeats 4000000 in
/-- First chunk: the state found is the initial one. -/
theorem point_A (hlat : LatOk m c t) (h0 : t.val % 16 = 0) (h1 : ¬t.val % 16 = 15) :
    (outsAt0 m c t.val t.isLt).1 = GO (iblk m c 0 t) (iblk m c 1 t) (iblk m c 2 t) (iblk m c 3 t) (k0_pay4 (iblk m c 5 t))
    ∧ (outsAt0 m c t.val t.isLt).2.2 = GS (iblk m c 1 t) (iblk m c 2 t) (iblk m c 3 t) (k0_pay4 (iblk m c 5 t)) := by
  rw [outsAt0_A m c t h0 h1]
  frame_open
  simp (disch := decide) only [↓ View.readCov_skip, ↓ View.readCov_cons_toLoadRect, ↓ View.readCov_fill]
  frame_out
  constructor
  · exact canon_listO _ _ _ _ _ _ hlat
  · exact canon_listS _ _ _ _ [_]

set_option maxHeartbeats 4000000 in
/-- A middle chunk: the state found is what the point before left. -/
theorem point_B (hlat : LatOk m c t) (h0 : ¬t.val % 16 = 0) (h1 : ¬t.val % 16 = 15) :
    (outsAt0 m c t.val t.isLt).1 = GO (iblk m c 0 t) (iblk m c 1 t) (iblk m c 2 t) (iblk m c 3 t)
        (outsAt0 m c (t.val - 1) (Nat.lt_of_le_of_lt (Nat.sub_le _ _) t.isLt)).2.2
    ∧ (outsAt0 m c t.val t.isLt).2.2 = GS (iblk m c 1 t) (iblk m c 2 t) (iblk m c 3 t)
        (outsAt0 m c (t.val - 1) (Nat.lt_of_le_of_lt (Nat.sub_le _ _) t.isLt)).2.2 := by
  rw [outsAt0_B m c t h0 h1]
  generalize (outsAt0 m c (t.val - 1) (Nat.lt_of_le_of_lt (Nat.sub_le _ _) t.isLt)).2.2 = S
  frame_open
  simp (disch := decide) only [↓ View.readCov_skip, ↓ View.readCov_cons_toLoadRect, ↓ View.readCov_fill]
  frame_out
  simp only [read_unread_whole]
  constructor
  · exact canon_listO _ _ _ _ _ _ hlat
  · exact canon_listS _ _ _ _ []

set_option maxHeartbeats 4000000 in
/-- The last chunk: as in the middle, and the state is stored. -/
theorem point_C (hlat : LatOk m c t) (h0 : ¬t.val % 16 = 0) (h1 : t.val % 16 = 15) :
    (outsAt0 m c t.val t.isLt).1 = GO (iblk m c 0 t) (iblk m c 1 t) (iblk m c 2 t) (iblk m c 3 t)
        (outsAt0 m c (t.val - 1) (Nat.lt_of_le_of_lt (Nat.sub_le _ _) t.isLt)).2.2
    ∧ (outsAt0 m c t.val t.isLt).2.2 = GS (iblk m c 1 t) (iblk m c 2 t) (iblk m c 3 t)
        (outsAt0 m c (t.val - 1) (Nat.lt_of_le_of_lt (Nat.sub_le _ _) t.isLt)).2.2
    ∧ (outsAt0 m c t.val t.isLt).2.1 = k0_pay3 (GS (iblk m c 1 t) (iblk m c 2 t) (iblk m c 3 t)
        (outsAt0 m c (t.val - 1) (Nat.lt_of_le_of_lt (Nat.sub_le _ _) t.isLt)).2.2) := by
  rw [outsAt0_C m c t h0 h1]
  generalize (outsAt0 m c (t.val - 1) (Nat.lt_of_le_of_lt (Nat.sub_le _ _) t.isLt)).2.2 = S
  frame_open
  simp (disch := decide) only [↓ View.readCov_skip, ↓ View.readCov_cons_toLoadRect, ↓ View.readCov_fill]
  frame_out
  simp only [read_unread_whole]
  refine ⟨?_, ?_, ?_⟩
  · exact canon_listO _ _ _ _ _ _ hlat
  · exact canon_listS _ _ _ _ []
  · exact congrArg k0_pay3 (readCov_whole _ (canon_listS _ _ _ _ []) _)

end Cert.Decay
-- ==== Proof.Decay.Chunks.lean ====
/-
  The decay scan over the whole arrays: chunk `n` of sequence `b`, head `h`, read off the arrays, and the state after the
  first `n` chunks.
-/
module

public import proofs.«01_k».proof.Proof.Decay.Spec
public import Idealize.ShloMosaic.Lib.Pointwise

@[expose] public section

noncomputable section

namespace Cert.Decay

open Idealize.ShloMosaic

/-- Position `i` of chunk `n` in its sequence. -/
def pos (n : ℕ) (i : Fin 128) : Fin 2048 := ⟨(128 * n + i.val) % 2048, Nat.mod_lt _ (by decide)⟩

theorem pos_val {n : ℕ} (hn : n < 16) (i : Fin 128) : (pos n i).val = 128 * n + i.val := Nat.mod_eq_of_lt (by omega)

/-- Chunk `n` of the queries (or keys) of head `h`: the head's group is `h / 8`. -/
def cq (a : Vec Ideal ⟨3, ![8, 2048, 256]⟩ .f32) (b : Fin 8) (h : Fin 16) (n : ℕ) (i d : Fin 128) : EReal :=
  a (ix3 b (pos n i) (⟨128 * (h.val / 8) + d.val, by omega⟩ : Fin 256))

/-- Chunk `n` of the values of head `h`. -/
def cv (a : Vec Ideal ⟨3, ![8, 2048, 1024]⟩ .f32) (b : Fin 8) (h : Fin 16) (n : ℕ) (i : Fin 128) (x : Fin 64) : EReal :=
  a (ix3 b (pos n i) (⟨64 * h.val + x.val, by omega⟩ : Fin 1024))

/-- Chunk `n` of the log decays of head `h`. -/
def cl (a : Vec Ideal ⟨3, ![8, 2048, 16]⟩ .f32) (b : Fin 8) (h : Fin 16) (n : ℕ) (i : Fin 128) : EReal := a (ix3 b (pos n i) h)

/-- The state of head `h` of sequence `b` after `n` chunks. -/
def stN (k : Vec Ideal ⟨3, ![8, 2048, 256]⟩ .f32) (v : Vec Ideal ⟨3, ![8, 2048, 1024]⟩ .f32)
    (l : Vec Ideal ⟨3, ![8, 2048, 16]⟩ .f32) (s : Vec Ideal ⟨4, ![8, 16, 128, 64]⟩ .f32) (b : Fin 8) (h : Fin 16) :
    ℕ → Fin 128 → Fin 64 → EReal
  | 0 => fun d x => s (ix4 b h d x)
  | n + 1 => stC (cq k b h n) (cv v b h n) (cl l b h n) (stN k v l s b h n)

/-- The output of head `h` of sequence `b` in chunk `n`. -/
def outN (q k : Vec Ideal ⟨3, ![8, 2048, 256]⟩ .f32) (v : Vec Ideal ⟨3, ![8, 2048, 1024]⟩ .f32)
    (l : Vec Ideal ⟨3, ![8, 2048, 16]⟩ .f32) (s : Vec Ideal ⟨4, ![8, 16, 128, 64]⟩ .f32) (b : Fin 8) (h : Fin 16) (n : ℕ) :
    Fin 128 → Fin 64 → EReal :=
  outC (cq q b h n) (cq k b h n) (cv v b h n) (cl l b h n) (stN k v l s b h n)

/-- The whole output. -/
def outAll (q k : Vec Ideal ⟨3, ![8, 2048, 256]⟩ .f32) (v : Vec Ideal ⟨3, ![8, 2048, 1024]⟩ .f32)
    (l : Vec Ideal ⟨3, ![8, 2048, 16]⟩ .f32) (s : Vec Ideal ⟨4, ![8, 16, 128, 64]⟩ .f32) :
    Vec Ideal ⟨3, ![8, 2048, 1024]⟩ .f32 := fun y =>
  outN q k v l s (y 0) (⟨(y 2).val / 64, by have : (y 2).val < 1024 := (y 2).isLt; omega⟩ : Fin 16)
    ((y 1).val / 128) (⟨(y 1).val % 128, Nat.mod_lt _ (by decide)⟩ : Fin 128) (⟨(y 2).val % 64, Nat.mod_lt _ (by decide)⟩ : Fin 64)

/-- The state at the end. -/
def stAll (k : Vec Ideal ⟨3, ![8, 2048, 256]⟩ .f32) (v : Vec Ideal ⟨3, ![8, 2048, 1024]⟩ .f32)
    (l : Vec Ideal ⟨3, ![8, 2048, 16]⟩ .f32) (s : Vec Ideal ⟨4, ![8, 16, 128, 64]⟩ .f32) :
    Vec Ideal ⟨4, ![8, 16, 128, 64]⟩ .f32 := fun y => stN k v l s (y 0) (y 1) 16 (y 2) (y 3)

end Cert.Decay
-- ==== Proof.Decay.Fold.lean ====
/-
  The decay kernel's grid, one sequence after another and in each its sixteen chunks: what a point leaves in the output
  block and in the carried state, and so the two arrays after the run.
-/
module

public import proofs.«01_k».proof.Proof.Decay.Point
public import proofs.«01_k».proof.Proof.Decay.Chunks
public import proofs.«01_k».proof.Proof.Gen.KernelIdeal.Value
public import Idealize.ShloMosaic.Lib.Claim

@[expose] public section

noncomputable section

namespace Cert.Decay

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments, as arrays. -/
abbrev aq : Vec Ideal S8x2048x256 .f32 := m ((c : Thread nD τ).loc main_arg0)
abbrev ak : Vec Ideal S8x2048x256 .f32 := m ((c : Thread nD τ).loc main_arg1)
abbrev av : Vec Ideal S8x2048x1024 .f32 := m ((c : Thread nD τ).loc main_arg2)
abbrev al : Vec Ideal S8x2048x16 .f32 := m ((c : Thread nD τ).loc main_arg3)
abbrev a4 : Vec Ideal S8x16x128x64 .f32 := m ((c : Thread nD τ).loc main_arg4)

/-- The windows' block indices at point `t`: sequence `t / 16`, chunk `t % 16`. -/
theorem idxs : ∀ t : Fin cfg0.N,
    (win0_0.index t 0 = (t.val / 16 : ℕ) ∧ win0_0.index t 1 = (t.val % 16 : ℕ) ∧ win0_0.index t 2 = 0)
    ∧ (win0_1.index t 0 = (t.val / 16 : ℕ) ∧ win0_1.index t 1 = (t.val % 16 : ℕ) ∧ win0_1.index t 2 = 0)
    ∧ (win0_2.index t 0 = (t.val / 16 : ℕ) ∧ win0_2.index t 1 = (t.val % 16 : ℕ) ∧ win0_2.index t 2 = 0)
    ∧ (win0_3.index t 0 = (t.val / 16 : ℕ) ∧ win0_3.index t 1 = (t.val % 16 : ℕ) ∧ win0_3.index t 2 = 0)
    ∧ (win0_4.index t 0 = (t.val / 16 : ℕ) ∧ win0_4.index t 1 = 0 ∧ win0_4.index t 2 = (t.val % 16 : ℕ))
    ∧ (win0_5.index t 0 = (t.val / 16 : ℕ) ∧ win0_5.index t 1 = 0 ∧ win0_5.index t 2 = 0 ∧ win0_5.index t 3 = 0) :=
  (by decide +kernel : ∀ t : Fin grid0.N, _)

variable (t : Fin cfg0.N)

theorem seq_lt : t.val / 16 < 8 := by have := lt_of_lt_of_eq t.isLt (show cfg0.N = 128 from N_0); omega

/-- The sequence of point `t`. -/
def sq : Fin 8 := ⟨t.val / 16, seq_lt t⟩

theorem blk0 (i : Fin 128) (x : Fin 256) :
    (iblk m c 0 t : Vec Ideal S1x128x256 .f32) (ix3 0 i x) = aq m c (ix3 (sq t) (pos (t.val % 16) i) x) := by
  have hp := pos_val (Nat.mod_lt t.val (by decide)) i
  obtain ⟨⟨h0, h1, h2⟩, -⟩ := idxs t
  blk_ext [iblk, V, h0, h1, h2, sq, hp]

theorem blk1 (i : Fin 128) (x : Fin 256) :
    (iblk m c 1 t : Vec Ideal S1x128x256 .f32) (ix3 0 i x) = ak m c (ix3 (sq t) (pos (t.val % 16) i) x) := by
  have hp := pos_val (Nat.mod_lt t.val (by decide)) i
  obtain ⟨-, ⟨h0, h1, h2⟩, -⟩ := idxs t
  blk_ext [iblk, V, h0, h1, h2, sq, hp]

theorem blk2 (i : Fin 128) (x : Fin 1024) :
    (iblk m c 2 t : Vec Ideal S1x128x1024 .f32) (ix3 0 i x) = av m c (ix3 (sq t) (pos (t.val % 16) i) x) := by
  have hp := pos_val (Nat.mod_lt t.val (by decide)) i
  obtain ⟨-, -, ⟨h0, h1, h2⟩, -⟩ := idxs t
  blk_ext [iblk, V, h0, h1, h2, sq, hp]

theorem blk3 (i : Fin 128) (x : Fin 16) :
    (iblk m c 3 t : Vec Ideal S1x128x16 .f32) (ix3 0 i x) = al m c (ix3 (sq t) (pos (t.val % 16) i) x) := by
  have hp := pos_val (Nat.mod_lt t.val (by decide)) i
  obtain ⟨-, -, -, ⟨h0, h1, h2⟩, -⟩ := idxs t
  blk_ext [iblk, V, h0, h1, h2, sq, hp]

theorem blk4 (i : Fin 128) (x : Fin 16) :
    (iblk m c 4 t : Vec Ideal S1x16x128 .f32) (ix3 0 x i) = al m c (ix3 (sq t) (pos (t.val % 16) i) x) := by
  have hp := pos_val (Nat.mod_lt t.val (by decide)) i
  obtain ⟨-, -, -, -, ⟨h0, h1, h2⟩, -⟩ := idxs t
  blk_ext! [iblk, V, h0, h1, h2, sq, hp]

theorem blk5 (h : Fin 16) (d : Fin 128) (x : Fin 64) :
    (iblk m c 5 t : Vec Ideal S1x16x128x64 .f32) (ix4 0 h d x) = a4 m c (ix4 (sq t) h d x) := by
  obtain ⟨-, -, -, -, -, h0, h1, h2, h3⟩ := idxs t
  blk_ext [iblk, V, h0, h1, h2, h3, sq]

theorem latOk : LatOk m c t := fun h j => (blk4 m c t j h).trans (blk3 m c t j h).symm

/-- The kernel's state after point `t`, at head `h`. -/
theorem gs_eq (st : Vec Ideal S16x128x64 .f32)
    (hst : ∀ h d x, st (ix3 h d x) = stN (ak m c) (av m c) (al m c) (a4 m c) (sq t) h (t.val % 16) d x) (h : Fin 16) (d : Fin 128) (x : Fin 64) :
    GS (iblk m c 1 t) (iblk m c 2 t) (iblk m c 3 t) st (ix3 h d x)
      = stN (ak m c) (av m c) (al m c) (a4 m c) (sq t) h (t.val % 16 + 1) d x := by
  show gsAt (iblk m c 1 t) (iblk m c 2 t) (iblk m c 3 t) st h d x = stC _ _ _ _ d x
  unfold gsAt
  simp only [blk1, blk2, blk3, hst]
  rfl

/-- The kernel's output at point `t`, position `i`, column `x`. -/
theorem go_eq (st : Vec Ideal S16x128x64 .f32)
    (hst : ∀ h d x, st (ix3 h d x) = stN (ak m c) (av m c) (al m c) (a4 m c) (sq t) h (t.val % 16) d x) (i : Fin 128) (x : Fin 1024) :
    GO (iblk m c 0 t) (iblk m c 1 t) (iblk m c 2 t) (iblk m c 3 t) st (ix3 0 i x)
      = outN (aq m c) (ak m c) (av m c) (al m c) (a4 m c) (sq t) (⟨x.val / 64, by omega⟩ : Fin 16) (t.val % 16) i
        (⟨x.val % 64, Nat.mod_lt _ (by decide)⟩ : Fin 64) := by
  show goAt (iblk m c 0 t) (iblk m c 1 t) (iblk m c 2 t) (iblk m c 3 t) st (⟨x.val / 64, by omega⟩ : Fin 16) i
        (⟨x.val % 64, Nat.mod_lt _ (by decide)⟩ : Fin 64) = _
  unfold goAt outN
  simp only [blk0, blk1, blk2, blk3, hst]
  rfl

/-- The loaded initial state at head `h`. -/
theorem pay4_at (h : Fin 16) (d : Fin 128) (x : Fin 64) :
    (k0_pay4 (iblk m c 5 t) : Vec Ideal S16x128x64 .f32) (ix3 h d x) = a4 m c (ix4 (sq t) h d x) := by
  refine Eq.trans ?_ (blk5 m c t h d x)
  pointwise [k0_pay4]

/-- The stored state at head `h`. -/
theorem pay3_at (s : Vec Ideal S16x128x64 .f32) (h : Fin 16) (d : Fin 128) (x : Fin 64) :
    (k0_pay3 s : Vec Ideal S1x16x128x64 .f32) (ix4 0 h d x) = s (ix3 h d x) := by
  pointwise [k0_pay3]

/-- After point `t` the carried state is the state after the sequence's first `t % 16 + 1` chunks; the output block is the
    chunk's output; at the last chunk the stored state is the carried one. -/
theorem outs_eq : ∀ (n : ℕ) (hn : n < cfg0.N),
    (∀ h d x, (outsAt0 m c n hn).2.2 (ix3 h d x)
      = stN (ak m c) (av m c) (al m c) (a4 m c) (sq ⟨n, hn⟩) h (n % 16 + 1) d x)
    ∧ (∀ i x, (outsAt0 m c n hn).1 (ix3 0 i x)
      = outN (aq m c) (ak m c) (av m c) (al m c) (a4 m c) (sq ⟨n, hn⟩) (⟨x.val / 64, by omega⟩ : Fin 16) (n % 16) i
        (⟨x.val % 64, Nat.mod_lt _ (by decide)⟩ : Fin 64))
    ∧ (n % 16 = 15 → ∀ h d x, (outsAt0 m c n hn).2.1 (ix4 0 h d x)
      = stN (ak m c) (av m c) (al m c) (a4 m c) (sq ⟨n, hn⟩) h 16 d x) := by
  intro n
  induction n with
  | zero =>
    intro hn
    have hs := fun h d x => pay4_at m c ⟨0, hn⟩ h d x
    obtain ⟨e1, e2⟩ := point_A m c ⟨0, hn⟩ (latOk m c _) rfl (by show ¬0 % 16 = 15; decide)
    exact ⟨fun h d x => (congrFun e2 _).trans (gs_eq m c ⟨0, hn⟩ _ hs h d x),
      fun i x => (congrFun e1 _).trans (go_eq m c ⟨0, hn⟩ _ hs i x), fun h => absurd h (by decide)⟩
  | succ n ih =>
    intro hn
    by_cases h0 : (n + 1) % 16 = 0
    · have hs : ∀ h d x, (k0_pay4 (iblk m c 5 ⟨n + 1, hn⟩) : Vec Ideal S16x128x64 .f32) (ix3 h d x)
          = stN (ak m c) (av m c) (al m c) (a4 m c) (sq ⟨n + 1, hn⟩) h ((n + 1) % 16) d x := fun h d x => by
        rw [h0]; exact pay4_at m c ⟨n + 1, hn⟩ h d x
      obtain ⟨e1, e2⟩ := point_A m c ⟨n + 1, hn⟩ (latOk m c _) h0 (by show ¬(n + 1) % 16 = 15; omega)
      exact ⟨fun h d x => (congrFun e2 _).trans (gs_eq m c ⟨n + 1, hn⟩ _ hs h d x),
        fun i x => (congrFun e1 _).trans (go_eq m c ⟨n + 1, hn⟩ _ hs i x), fun h => absurd h (by omega)⟩
    · have hs : ∀ h d x, (outsAt0 m c n (Nat.lt_of_succ_lt hn)).2.2 (ix3 h d x)
          = stN (ak m c) (av m c) (al m c) (a4 m c) (sq ⟨n + 1, hn⟩) h ((n + 1) % 16) d x := fun h d x => by
        have e : sq ⟨n + 1, hn⟩ = sq ⟨n, Nat.lt_of_succ_lt hn⟩ := Fin.ext (by show (n + 1) / 16 = n / 16; omega)
        rw [e, show (n + 1) % 16 = n % 16 + 1 by omega]
        exact (ih (Nat.lt_of_succ_lt hn)).1 h d x
      by_cases h1 : (n + 1) % 16 = 15
      · obtain ⟨e1, e2, e3⟩ := point_C m c ⟨n + 1, hn⟩ (latOk m c _) h0 h1
        refine ⟨fun h d x => (congrFun e2 _).trans (gs_eq m c ⟨n + 1, hn⟩ _ hs h d x),
          fun i x => (congrFun e1 _).trans (go_eq m c ⟨n + 1, hn⟩ _ hs i x), fun _ h d x => ?_⟩
        refine (congrFun e3 _).trans ((pay3_at _ h d x).trans ((gs_eq m c ⟨n + 1, hn⟩ _ hs h d x).trans ?_))
        show stN (ak m c) (av m c) (al m c) (a4 m c) (sq ⟨n + 1, hn⟩) h ((n + 1) % 16 + 1) d x = _
        rw [h1]
      · obtain ⟨e1, e2⟩ := point_B m c ⟨n + 1, hn⟩ (latOk m c _) h0 h1
        exact ⟨fun h d x => (congrFun e2 _).trans (gs_eq m c ⟨n + 1, hn⟩ _ hs h d x),
          fun i x => (congrFun e1 _).trans (go_eq m c ⟨n + 1, hn⟩ _ hs i x), fun h => absurd h h1⟩

open Cert.KernelIdeal.Value in
/-- The output array after the run. -/
theorem G6_eq : G6 m c = outAll (aq m c) (ak m c) (av m c) (al m c) (a4 m c) := by
  funext y
  have hN : cfg0.N = 128 := N_0
  have hb : (y 0).val < 8 := (y 0).isLt
  have hp : (y 1).val < 2048 := (y 1).isLt
  have hx : (y 2).val < 1024 := (y 2).isLt
  have hpt : pt6Of y = 16 * (y 0).val + (y 1).val / 128 := by
    show 16 * ((y 0).val / 1 - 0) + 1 * ((y 1).val / 128 - 0) + 1 * ((y 2).val / 1024 - 0) = _; omega
  have hlt : pt6Of y < cfg0.N := by rw [hpt, hN]; omega
  have hl : loc6Of y = ix3 0 (⟨(y 1).val % 128, Nat.mod_lt _ (by decide)⟩ : Fin 128) (⟨(y 2).val, hx⟩ : Fin 1024) :=
    funext fun a => Fin.ext (by
      fin_cases a
      · exact Nat.mod_one _
      · rfl
      · exact Nat.mod_eq_of_lt hx)
  unfold G6
  rw [dif_pos hlt, ← outsAt0_sweep m c _ hlt, hl]
  refine ((outs_eq m c _ hlt).2.1 _ _).trans ?_
  have e1 : sq ⟨pt6Of y, hlt⟩ = y 0 := Fin.ext (by show pt6Of y / 16 = (y 0).val; omega)
  have e2 : pt6Of y % 16 = (y 1).val / 128 := by omega
  rw [e1, e2]
  rfl

open Cert.KernelIdeal.Value in
/-- The state array after the run. -/
theorem G7_eq : G7 m c = stAll (ak m c) (av m c) (al m c) (a4 m c) := by
  funext y
  have hN : cfg0.N = 128 := N_0
  have hb : (y 0).val < 8 := (y 0).isLt
  have hh : (y 1).val < 16 := (y 1).isLt
  have hd : (y 2).val < 128 := (y 2).isLt
  have hx : (y 3).val < 64 := (y 3).isLt
  have hpt : pt7Of y = 16 * (y 0).val + 15 := by
    show 16 * (1 * ((y 0).val / 1 - 0) + 1 * ((y 1).val / 16 - 0) + 1 * ((y 2).val / 128 - 0) + 1 * ((y 3).val / 64 - 0)) + 15 = _; omega
  have hlt : pt7Of y < cfg0.N := by rw [hpt, hN]; omega
  have hl : loc7Of y = ix4 0 (y 1) (y 2) (y 3) :=
    funext fun a => Fin.ext (by
      fin_cases a
      · exact Nat.mod_one _
      · exact Nat.mod_eq_of_lt hh
      · exact Nat.mod_eq_of_lt hd
      · exact Nat.mod_eq_of_lt hx)
  unfold G7
  rw [dif_pos hlt, ← outsAt0_sweep m c _ hlt, hl]
  refine ((outs_eq m c _ hlt).2.2 (by omega) _ _ _).trans ?_
  have e1 : sq ⟨pt7Of y, hlt⟩ = y 0 := Fin.ext (by show pt7Of y / 16 = (y 0).val; omega)
  rw [e1]
  rfl

end Cert.Decay
-- ==== Proof.Decay.RefOps.lean ====
/-
  The reference's chunked scan, one trip at an index: the running sums of the log decays, and the trip's values.
-/
module

public import proofs.«01_k».proof.Proof.Gen.ReferenceIdeal.Step
public import proofs.«01_k».proof.Proof.Decay.Chunks
public import Idealize.ShloMosaic.Lib.WordCmp

@[expose] public section

noncomputable section

namespace Cert.Decay.Ref

open Cert.ReferenceIdeal Cert.ReferenceIdeal.Gen Cert.ReferenceIdeal.Step Idealize.ShloMosaic Cert.Decay

theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- Indices of a window that is long on the middle axis only. -/
def winEquiv : Fin 128 ≃ (⟨3, ![1, 128, 1]⟩ : Shape).Idx where
  toFun n := ix3 0 n 0
  invFun w := w 1
  left_inv n := rfl
  right_inv w := funext fun a => match a with
    | ⟨0, _⟩ => Fin.ext (by have : (w 0).val < 1 := (w 0).isLt; show 0 = (w 0).val; omega)
    | ⟨1, _⟩ => rfl
    | ⟨2, _⟩ => Fin.ext (by have : (w 2).val < 1 := (w 2).isLt; show 0 = (w 2).val; omega)

/-- A sum over such a window in row-major order. -/
theorem foldl_win (G : (⟨3, ![1, 128, 1]⟩ : Shape).Idx → EReal) :
    (List.finRange (⟨3, ![1, 128, 1]⟩ : Shape).numel).foldl (fun r n => r + G ((⟨3, ![1, 128, 1]⟩ : Shape).rowMajor.symm n)) 0
      = ∑ n : Fin 128, G (ix3 0 n 0) := by
  rw [foldl_add, ← Fin.sum_univ_def, zero_add, ← Equiv.sum_comp (winEquiv.trans (Shape.rowMajor _))]
  refine Finset.sum_congr rfl fun n _ => congrArg G ?_
  exact (Shape.rowMajor _).symm_apply_apply _

/-- The window's place `w` over position `i` is inside the array. -/
abbrev winIn (b : Fin 8) (i : Fin 128) (e : Fin 16) (w : (⟨3, ![1, 128, 1]⟩ : Shape).Idx) : Prop :=
  ∀ a : Fin 3, (![0, 127, 0] : Fin 3 → ℕ) a ≤ ((ix3 b i e : S8x128x16.Idx) a).val * (![1, 1, 1] : Fin 3 → ℕ) a + (w a).val
    ∧ ((ix3 b i e : S8x128x16.Idx) a).val * (![1, 1, 1] : Fin 3 → ℕ) a + (w a).val - (![0, 127, 0] : Fin 3 → ℕ) a < S8x128x16.size a

/-- One term of the window's sum: the entry `127 - n` places before `i`, zero before the beginning. -/
def winTerm (x : FVec Ideal S8x128x16 .f32) (b : Fin 8) (i : Fin 128) (e : Fin 16) (w : (⟨3, ![1, 128, 1]⟩ : Shape).Idx) : EReal :=
  if hin : winIn b i e w
  then x (fun a => ⟨((ix3 b i e : S8x128x16.Idx) a).val * (![1, 1, 1] : Fin 3 → ℕ) a + (w a).val - (![0, 127, 0] : Fin 3 → ℕ) a, (hin a).2⟩) else 0

theorem winTerm_eq (x : FVec Ideal S8x128x16 .f32) (b : Fin 8) (i : Fin 128) (e : Fin 16) (n : Fin 128) :
    winTerm x b i e (ix3 0 n 0) = if n + (i + 1) ≤ i then x (ix3 b (n + (i + 1)) e) else 0 := by
  unfold winTerm
  have hb := b.isLt
  have he := e.isLt
  by_cases hn : 127 ≤ i.val + n.val
  · have e1 : (n + (i + 1)).val = i.val + n.val - 127 := by
      simp only [Fin.val_add]; omega
    have hin : winIn b i e (ix3 0 n 0) := fun a => match a with
      | ⟨0, _⟩ => (by omega : 0 ≤ b.val * 1 + 0 ∧ b.val * 1 + 0 - 0 < 8)
      | ⟨1, _⟩ => (by omega : 127 ≤ i.val * 1 + n.val ∧ i.val * 1 + n.val - 127 < 128)
      | ⟨2, _⟩ => (by omega : 0 ≤ e.val * 1 + 0 ∧ e.val * 1 + 0 - 0 < 16)
    rw [dif_pos hin, if_pos (Fin.le_def.2 (by omega))]
    exact congrArg x (funext fun a => match a with
      | ⟨0, _⟩ => Fin.ext (by show b.val * 1 + 0 - 0 = b.val; omega)
      | ⟨1, _⟩ => Fin.ext (by show i.val * 1 + n.val - 127 = (n + (i + 1)).val; omega)
      | ⟨2, _⟩ => Fin.ext (by show e.val * 1 + 0 - 0 = e.val; omega))
  · have e1 : (n + (i + 1)).val = i.val + n.val + 1 := by
      simp only [Fin.val_add]; omega
    rw [dif_neg, if_neg]
    · intro h
      have := Fin.le_def.1 h
      omega
    · intro hh
      have : 127 ≤ i.val * 1 + n.val := (hh (1 : Fin 3)).1
      omega

/-- The windowed sum over 128 positions, padded low with zeros, is the running sum. -/
theorem cumsum_apply (x : FVec Ideal S8x128x16 .f32) (z : FVec Ideal S_ .f32) (hz : ∀ i, z i = 0) (h hu) (b : Fin 8) (i : Fin 128) (e : Fin 16) :
    (Host.reduceWindowAdd ![1, 128, 1] ![1, 1, 1] ![0, 127, 0] ![0, 0, 0] x z h hu : FVec Ideal S8x128x16 .f32) (ix3 b i e)
      = cum (fun j => x (ix3 b j e)) i := by
  unfold Host.reduceWindowAdd
  rw [Ideal.hostReduceWindowAdd_def, hz]
  unfold Ideal.hostReduceWindowAdd Host.reduceWindow
  refine Eq.trans (congrArg (fun f => List.foldl f 0 _) (funext fun r => funext fun n => congrArg (r + ·) ?_)) (foldl_win (winTerm x b i e)) |>.trans ?_
  · unfold winTerm
    by_cases hin : winIn b i e ((⟨3, ![1, 128, 1]⟩ : Shape).rowMajor.symm n)
    · refine (@dif_pos _ _ hin _ _ _).trans ?_
      rw [dif_pos hin]
      rfl
    · refine (@dif_neg _ _ hin _ _ _).trans ?_
      rw [dif_neg hin]
  unfold cum
  simp only [winTerm_eq]
  exact Equiv.sum_comp (Equiv.addRight (i + 1)) (fun j => if j ≤ i then x (ix3 b j e) else 0)

variable (j : ℕ) (s : State Ideal)

theorem start (hj : j < 16) : ((constantI S_ 32 (BitVec.ofNat 32 j) : (⟨S_, .i32⟩ : BufTy).Contents (Elt Ideal)) (Shape.Idx.first h_S_)).toInt = (j : ℤ) :=
  WordCmp.toInt_ofNat_of_lt (by omega)

theorem slq (hj : j < 16) : S16x8x128x16x128.Slices ![j, 0, 0, 0, 0] S1x8x128x16x128 :=
  (by decide : ∀ j : Fin 16, S16x8x128x16x128.Slices ![j.val, 0, 0, 0, 0] S1x8x128x16x128) ⟨j, hj⟩
theorem slv (hj : j < 16) : S16x8x128x16x64.Slices ![j, 0, 0, 0, 0] S1x8x128x16x64 :=
  (by decide : ∀ j : Fin 16, S16x8x128x16x64.Slices ![j.val, 0, 0, 0, 0] S1x8x128x16x64) ⟨j, hj⟩
theorem sll (hj : j < 16) : S16x8x128x16.Slices ![j, 0, 0, 0] S1x8x128x16 :=
  (by decide : ∀ j : Fin 16, S16x8x128x16.Slices ![j.val, 0, 0, 0] S1x8x128x16) ⟨j, hj⟩

theorem b5_at (hj : j < 16) (b : Fin 8) (i : Fin 128) (h : Fin 16) (d : Fin 128) :
    b5 j s (ix4 b i h d) = s.main_v16_0 (ix5 (⟨j, hj⟩ : Fin 16) b i h d) := by
  unfold b5 b4
  rw [WordCmp.dynamicSlice_eq_extract _ _ _ _ _ (slq j hj) (by intro a; fin_cases a; exact start j hj; all_goals rfl)]
  pointwise

theorem b11_at (hj : j < 16) (b : Fin 8) (i : Fin 128) (h : Fin 16) (d : Fin 128) :
    b11 j s (ix4 b i h d) = s.main_v16_1 (ix5 (⟨j, hj⟩ : Fin 16) b i h d) := by
  unfold b11 b10
  rw [WordCmp.dynamicSlice_eq_extract _ _ _ _ _ (slq j hj) (by intro a; fin_cases a; exact start j hj; all_goals rfl)]
  pointwise

theorem b17_at (hj : j < 16) (b : Fin 8) (i : Fin 128) (h : Fin 16) (x : Fin 64) :
    b17 j s (ix4 b i h x) = s.main_v16_2 (ix5 (⟨j, hj⟩ : Fin 16) b i h x) := by
  unfold b17 b16
  rw [WordCmp.dynamicSlice_eq_extract _ _ _ _ _ (slv j hj) (by intro a; fin_cases a; exact start j hj; all_goals rfl)]
  pointwise

theorem b22_at (hj : j < 16) (b : Fin 8) (i : Fin 128) (h : Fin 16) :
    b22 j s (ix3 b i h) = s.main_v16_3 (ix4 (⟨j, hj⟩ : Fin 16) b i h) := by
  unfold b22 b21
  rw [WordCmp.dynamicSlice_eq_extract _ _ _ _ _ (sll j hj) (by intro a; fin_cases a; exact start j hj; all_goals rfl)]
  pointwise

theorem b25_at (b : Fin 8) (i : Fin 128) (h : Fin 16) :
    b25 j s (ix3 b i h) = cum (fun i => b22 j s (ix3 b i h)) i :=
  cumsum_apply _ _ (fun i => by pointwise [b24, b23]) _ _ b i h

/-- The masked decays. -/
theorem b53_at (b : Fin 8) (i k : Fin 128) (h : Fin 16) :
    b53 j s (ix4 b i k h) = dec (fun i => b22 j s (ix3 b i h)) i k := by
  have hm : ∀ i k : Fin 128, b36 j s (ix2 i k) = if k ≤ i then 1#1 else 0#1 := by
    intro i k
    pointwise [b36, b35, b34, b33, b32, b31, b30, b29, b28, b27, b26]
    rw [show IntOp.addi (BitVec.ofNat 32 i.val) 0#32 = BitVec.ofNat 32 i.val from BitVec.add_zero _, sge_eq]
    split <;> rfl
  pointwise [b53, b52, b51, b50, b49, b48, b47, b46, b45, b44, b43, b42, b41, b40, b39, b38, b37, hm, b25_at]
  unfold dec
  split
  · rfl
  · rfl

theorem b65_at (b : Fin 8) (i : Fin 128) (h : Fin 16) (x : Fin 64) :
    b65 j s (ix4 b i h x) = outC (fun i d => b5 j s (ix4 b i h d)) (fun i d => b11 j s (ix4 b i h d)) (fun i x => b17 j s (ix4 b i h x))
      (fun i => b22 j s (ix3 b i h)) (fun d x => s.main_v16_5 (ix4 b h d x)) i x := by
  unfold outC
  pointwise [b65, b64, b63, b62, b61, b60, b59, b58, b57, b56, b55, b54, b25_at, b53_at]
  refine congrArg₂ (· + ·) (Finset.sum_congr rfl fun k _ => ?_) (Finset.sum_congr rfl fun d _ => mul_comm _ _)
  rw [mul_comm]
  refine congrArg (· * _) (congrArg (· * _) (Finset.sum_congr rfl fun d _ => mul_comm _ _))

theorem b80_at (b : Fin 8) (h : Fin 16) (d : Fin 128) (x : Fin 64) :
    b80 j s (ix4 b h d x) = stC (fun i d => b11 j s (ix4 b i h d)) (fun i x => b17 j s (ix4 b i h x))
      (fun i => b22 j s (ix3 b i h)) (fun d x => s.main_v16_5 (ix4 b h d x)) d x := by
  unfold stC
  pointwise [b80, b79, b78, b77, b76, b75, b74, b73, b72, b71, b70, b69, b68, b67, b66, b25_at]

end Cert.Decay.Ref
-- ==== Proof.Decay.Trip.lean ====
/-
  One trip of the reference's scan, from one valuation of its buffers to the next: the carried values go on by `step`.
-/
module

public import proofs.«01_k».proof.Proof.Gen.ReferenceIdeal.Step
public import proofs.«01_k».proof.Proof.Gen.ReferenceIdeal.Run

@[expose] public section

noncomputable section

namespace Cert.Decay.Ref

open Cert.ReferenceIdeal Cert.ReferenceIdeal.Gen Cert.ReferenceIdeal.Value Cert.ReferenceIdeal.Step Idealize.ShloMosaic Idealize.ShloMosaic.TcCoe Idealize.SL.Sem
open Idealize.ShloMosaic.StableHlo

variable {F : FTy → Type} [FloatOps F]

/-- The scan's buffers in a valuation. -/
def stOf (V : Valuation τ sig (Elt F)) : State F where
  main_v16_5 := V (Proc.devRef .tc main_v16_5)
  main_v16_6 := V (Proc.devRef .tc main_v16_6)
  main_v16_0 := V (Proc.devRef .tc main_v16_0)
  main_v16_1 := V (Proc.devRef .tc main_v16_1)
  main_v16_2 := V (Proc.devRef .tc main_v16_2)
  main_v16_3 := V (Proc.devRef .tc main_v16_3)

variable {V : Valuation τ sig (Elt F)} {j : ℕ}

/-- The counter's value. -/
abbrev At (V : Valuation τ sig (Elt F)) (j : ℕ) : Prop := V (Proc.devRef .tc main_v16_4) = constantI S_ 32 (BitVec.ofNat 32 j)

theorem r20 (h : At V j) : res_main_while0b_v20 V = b5 j (stOf V) := by
  unfold res_main_while0b_v20; rw [h]; rfl
theorem r21 (h : At V j) : res_main_while0b_v21 V = b11 j (stOf V) := by
  unfold res_main_while0b_v21; rw [h]; rfl
theorem r22 (h : At V j) : res_main_while0b_v22 V = b17 j (stOf V) := by
  unfold res_main_while0b_v22; rw [h]; rfl
theorem r24 (h : At V j) : res_main_while0b_v24 V = b25 j (stOf V) := by
  unfold res_main_while0b_v24; rw [h]; rfl
theorem r27 : res_main_while0b_v27 V = b37 j (stOf V) := by
  unfold res_main_while0b_v27; rfl
theorem r49 (h : At V j) : res_main_while0b_v49 V = b67 j (stOf V) := by
  unfold res_main_while0b_v49; rw [r24 h]; rfl

theorem step5 (h : At V j) : Value.step_main_v16_5 V = b80 j (stOf V) := by
  unfold Value.step_main_v16_5
  rw [r49 h, r21 h, r24 h, r22 h]
  rfl

theorem step6 (h : At V j) : Value.step_main_v16_6 V = b86 j (stOf V) := by
  unfold Value.step_main_v16_6
  rw [h, r20 h, r21 h, r24 h, r22 h, r27 (j := j)]
  rfl

theorem mk_congr {a a' b b' c c' d d' e e' f f'} (ha : a = a') (hb : b = b') (hc : c = c') (hd : d = d') (he : e = e') (hf : f = f') :
    (⟨a, b, c, d, e, f⟩ : State F) = ⟨a', b', c', d', e', f'⟩ := by
  subst ha hb hc hd he hf; rfl

/-- A trip takes the scan's state on by `step`. -/
theorem stOf_step (h : At V j) : stOf (STEP V) = step j (stOf V) := by
  unfold Step.step
  exact mk_congr ((STEP_main_v16_5 V).trans (step5 h)) ((STEP_main_v16_6 V).trans (step6 h)) (STEP_main_v16_0 V) (STEP_main_v16_1 V)
    (STEP_main_v16_2 V) (STEP_main_v16_3 V)

theorem at_step (h : At V j) : At (STEP V) (j + 1) := by
  show STEP V (Proc.devRef .tc main_v16_4) = _
  refine (STEP_main_v16_4 V).trans ?_
  unfold step_main_v16_4
  rw [h]
  funext i
  show BitVec.ofNat 32 j + 1#32 = BitVec.ofNat 32 (j + 1)
  simp only [BitVec.ofNat_add]

variable (m : (ℓ : Loc nD τ sig) → Buf (Elt F) ℓ) (c : Dev nD)

set_option maxRecDepth 65536 in
set_option maxHeartbeats 300000 in
/-- What the scan starts from. -/
theorem stOf_entry : stOf (entryContents preI m c) = init (m ((c.tc : Thread nD τ).loc main_arg4)) (m ((c.tc : Thread nD τ).loc main_arg0))
    (m ((c.tc : Thread nD τ).loc main_arg1)) (m ((c.tc : Thread nD τ).loc main_arg2)) (m ((c.tc : Thread nD τ).loc main_arg3)) := by
  refine mk_congr ?_ ?_ ?_ ?_ ?_ ?_ <;> (simp only [entryContents, afterL_cons, afterL_nil]; after_reads_simp) <;> rfl

theorem at_entry : At (entryContents preI m c) 0 := ctr_entry m c

end Cert.Decay.Ref
-- ==== Proof.Decay.Ref.lean ====
/-
  The reference's chunked scan from its arguments: the state after `n` trips, and the two results.
-/
module

public import proofs.«01_k».proof.Proof.Decay.RefOps
public import proofs.«01_k».proof.Proof.Decay.Trip
public import Idealize.ShloMosaic.Lib.Pipeline.ValueKit

@[expose] public section

noncomputable section

namespace Cert.Decay.Ref

open Cert.ReferenceIdeal Cert.ReferenceIdeal.Gen Cert.ReferenceIdeal.Step Idealize.ShloMosaic Cert.Decay

variable (q k : Vec Ideal S8x2048x256 .f32) (v : Vec Ideal S8x2048x1024 .f32) (l : Vec Ideal S8x2048x16 .f32) (s0 : Vec Ideal S8x16x128x64 .f32)

/-- The state after `n` trips. -/
def refIter : ℕ → State Ideal
  | 0 => init s0 q k v l
  | n + 1 => step n (refIter n)

theorem v16_0_at (n : Fin 16) (b : Fin 8) (i : Fin 128) (h : Fin 16) (d : Fin 128) :
    A_main_v8 (F := Ideal) q k v l (ix5 n b i h d) = cq q b h n.val i d := by
  have hp := pos_val n.isLt i
  unfold cq
  pointwise [A_main_v8, A_main_v7, A_main_v5, A_main_v4, A_main_v3]
  blk_ext [hp]

theorem v16_1_at (n : Fin 16) (b : Fin 8) (i : Fin 128) (h : Fin 16) (d : Fin 128) :
    A_main_v10 (F := Ideal) q k v l (ix5 n b i h d) = cq k b h n.val i d := by
  have hp := pos_val n.isLt i
  unfold cq
  pointwise [A_main_v10, A_main_v9, A_main_v2, A_main_v1, A_main_v0]
  blk_ext [hp]

theorem v16_2_at (n : Fin 16) (b : Fin 8) (i : Fin 128) (h : Fin 16) (x : Fin 64) :
    A_main_v12 (F := Ideal) q k v l (ix5 n b i h x) = cv v b h n.val i x := by
  have hp := pos_val n.isLt i
  unfold cv
  pointwise [A_main_v12, A_main_v11, A_main_v6]
  blk_ext [hp]

theorem v16_3_at (n : Fin 16) (b : Fin 8) (i : Fin 128) (h : Fin 16) :
    A_main_v14 (F := Ideal) q k v l (ix4 n b i h) = cl l b h n.val i := by
  have hp := pos_val n.isLt i
  unfold cl
  pointwise [A_main_v14, A_main_v13]
  blk_ext [hp]

/-- The chunked operands are the same in every trip. -/
theorem consts (n : ℕ) : (refIter q k v l s0 n).main_v16_0 = A_main_v8 q k v l
    ∧ (refIter q k v l s0 n).main_v16_1 = A_main_v10 q k v l
    ∧ (refIter q k v l s0 n).main_v16_2 = A_main_v12 q k v l
    ∧ (refIter q k v l s0 n).main_v16_3 = A_main_v14 q k v l := by
  induction n with
  | zero => exact ⟨rfl, rfl, rfl, rfl⟩
  | succ n ih => exact ih

theorem q_at {n : ℕ} (hn : n < 16) (b : Fin 8) (i : Fin 128) (h : Fin 16) (d : Fin 128) :
    b5 n (refIter q k v l s0 n) (ix4 b i h d) = cq q b h n i d := by
  rw [b5_at n _ hn, (consts q k v l s0 n).1, v16_0_at]

theorem k_at {n : ℕ} (hn : n < 16) (b : Fin 8) (i : Fin 128) (h : Fin 16) (d : Fin 128) :
    b11 n (refIter q k v l s0 n) (ix4 b i h d) = cq k b h n i d := by
  rw [b11_at n _ hn, (consts q k v l s0 n).2.1, v16_1_at]

theorem v_at {n : ℕ} (hn : n < 16) (b : Fin 8) (i : Fin 128) (h : Fin 16) (x : Fin 64) :
    b17 n (refIter q k v l s0 n) (ix4 b i h x) = cv v b h n i x := by
  rw [b17_at n _ hn, (consts q k v l s0 n).2.2.1, v16_2_at]

theorem l_at {n : ℕ} (hn : n < 16) (b : Fin 8) (i : Fin 128) (h : Fin 16) :
    b22 n (refIter q k v l s0 n) (ix3 b i h) = cl l b h n i := by
  rw [b22_at n _ hn, (consts q k v l s0 n).2.2.2, v16_3_at]

/-- The carried state after `n` trips. -/
theorem st_at : ∀ n : ℕ, n ≤ 16 → ∀ (b : Fin 8) (h : Fin 16) (d : Fin 128) (x : Fin 64),
    (refIter q k v l s0 n).main_v16_5 (ix4 b h d x) = stN k v l s0 b h n d x
  | 0, _, b, h, d, x => rfl
  | n + 1, hn, b, h, d, x => by
    show b80 n (refIter q k v l s0 n) (ix4 b h d x) = _
    rw [b80_at]
    have e := st_at n (by omega)
    simp only [k_at q k v l s0 (show n < 16 by omega), v_at q k v l s0 (show n < 16 by omega), l_at q k v l s0 (show n < 16 by omega), e]
    rfl

/-- A trip's output. -/
theorem o_at {n : ℕ} (hn : n < 16) (b : Fin 8) (h : Fin 16) (i : Fin 128) (x : Fin 64) :
    b65 n (refIter q k v l s0 n) (ix4 b i h x) = outN q k v l s0 b h n i x := by
  rw [b65_at]
  simp only [q_at q k v l s0 hn, k_at q k v l s0 hn, v_at q k v l s0 hn, l_at q k v l s0 hn, st_at q k v l s0 n hn.le]
  rfl

theorem slu {n : ℕ} (hn : n < 16) : S16x8x128x16x64.Slices ![n, 0, 0, 0, 0] S1x8x128x16x64 := slv n hn

/-- The outputs array after a trip: the trip's chunk is its output, the others are as before. -/
theorem b86_at {n : ℕ} (s : State Ideal) (hn : n < 16) (r : Fin 16) (b : Fin 8) (i : Fin 128) (h : Fin 16) (x : Fin 64) :
    b86 n s (ix5 r b i h x) = if r.val = n then b65 n s (ix4 b i h x) else s.main_v16_6 (ix5 r b i h x) := by
  unfold b86
  rw [WordCmp.dynamicUpdateSlice_eq_update _ _ _ _ _ (slu hn) (by intro a; fin_cases a; exact start n hn; all_goals rfl)]
  pointwise [b81]
  by_cases e : r.val = n
  · rw [if_pos e, dif_pos ⟨by omega, by omega⟩]
  · rw [if_neg e, dif_neg (by omega)]

/-- The outputs array after `n` trips, at a chunk already done. -/
theorem outs_at : ∀ n : ℕ, n ≤ 16 → ∀ (r : Fin 16), r.val < n → ∀ (b : Fin 8) (i : Fin 128) (h : Fin 16) (x : Fin 64),
    (refIter q k v l s0 n).main_v16_6 (ix5 r b i h x) = outN q k v l s0 b h r.val i x
  | 0, _, r, hr, b, i, h, x => absurd hr (Nat.not_lt_zero _)
  | n + 1, hn, r, hr, b, i, h, x => by
    show b86 n (refIter q k v l s0 n) (ix5 r b i h x) = _
    rw [b86_at _ (show n < 16 by omega)]
    split
    · rename_i e
      rw [o_at q k v l s0 (show n < 16 by omega), e]
    · exact outs_at n (by omega) r (by omega) b i h x

/-- The reference's state at the end. -/
theorem ref_state : (refIter q k v l s0 16).main_v16_5 = stAll k v l s0 := by
  funext y
  idx_vars y
  exact st_at q k v l s0 16 le_rfl y0 y1 y2 y3

/-- The reference's output. -/
theorem ref_out : R_main_v19 (refIter q k v l s0 16) = outAll q k v l s0 := by
  funext y
  idx_vars y
  pointwise [R_main_v19]
  rw [outs_at q k v l s0 16 le_rfl _ (by show y1.val / 128 < 16; omega)]
  rfl

/-! ## The run -/

open Idealize.SL.Sem Idealize.ShloMosaic.StableHlo Idealize.ShloMosaic.TcCoe Cert.ReferenceIdeal.Value

variable (m : (ℓ : Loc nD τ sig) → Buf (Elt Ideal) ℓ) (ρ : Dev nD → PrngReg)

/-- The scan's state after `n` trips, in the run. -/
theorem trips (c : Dev nD) (n : ℕ) : At (STEP^[n] (entryContents preI m c)) n ∧ stOf (STEP^[n] (entryContents preI m c))
    = refIter (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) n := by
  induction n with
  | zero => exact ⟨at_entry m c, stOf_entry m c⟩
  | succ n ih =>
    rw [Function.iterate_succ_apply']
    exact ⟨at_step ih.1, (stOf_step ih.1).trans (congrArg (Step.step n) ih.2)⟩

theorem out_eq (V : Valuation τ sig (Elt Ideal)) : out_main_v19 V = R_main_v19 (stOf V) := by
  unfold out_main_v19 R_main_v19
  rfl

/-- The reference's run: the output and the state are the scan's. -/
theorem ref_run : θ_run (defs (F := Ideal)) (onTc (τ := τ) (main (F := Ideal))) ⟨m, fun _ => 0, ρ⟩ fun r => ∀ c : Dev nD,
    r.2.mem ((c.tc : Thread nD τ).loc main_v19) = outAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    ∧ r.2.mem ((c.tc : Thread nD τ).loc main_v16_5) = stAll (m ((c.tc : Thread nD τ).loc main_arg1))
      (m ((c.tc : Thread nD τ).loc main_arg2)) (m ((c.tc : Thread nD τ).loc main_arg3)) (m ((c.tc : Thread nD τ).loc main_arg4)) := by
  refine (θ_run defs _ _).mono (fun _ h c => ⟨?_, ?_⟩) (Value.run m ρ)
  · refine (h c).1.trans (Eq.trans ?_ (ref_out _ _ _ _ _))
    exact (out_eq _).trans (congrArg R_main_v19 (trips m c 16).2)
  · refine (h c).2.1.trans (Eq.trans ?_ (ref_state (m ((c.tc : Thread nD τ).loc main_arg0)) _ _ _ _))
    exact congrArg State.main_v16_5 (trips m c 16).2

end Cert.Decay.Ref
-- ==== Proof.Decay.Claims.lean ====
/-
  The decay scan's claims: the reference's frame, and the equality of kernel and reference at the extended reals.
-/
module

public import proofs.«01_k».proof.Defs
public import proofs.«01_k».proof.Proof.Decay.Fold
public import proofs.«01_k».proof.Proof.Decay.Ref
public import Idealize.ShloMosaic.Lib.Quiescent

@[expose] public section

noncomputable section

namespace Cert.Decay

open Idealize.ShloMosaic Idealize.SL.Sem

/-- The reference runs, changes no argument and leaves every semaphore at zero. -/
theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Kernel and reference end with equal outputs and equal states: both are the chunk recursion of `Chunks.lean`. -/
theorem algebraic : Cert.algebraic_KernelIdeal_ReferenceIdeal := by
  intro m g m' g' _ hag
  refine ⟨fun c => outAll (aq m c) (ak m c) (av m c) (al m c) (a4 m c), fun c => stAll (ak m c) (av m c) (al m c) (a4 m c), ?_, ?_⟩
  · exact (θ_run Cert.KernelIdeal.defs _ _).mono (fun r h c => ⟨(h c).1.trans (G6_eq m c), (h c).2.1.trans (G7_eq m c), (h c).2.2⟩)
      (Cert.KernelIdeal.Value.run (F := Ideal) m g)
  · refine (θ_run Cert.ReferenceIdeal.defs _ _).mono (fun r h c => ?_)
      (θ_run_and (Ref.ref_run m' g') (Cert.ReferenceIdeal.Value.run (F := Ideal) m' g'))
    obtain ⟨e0, e1, e2, e3, e4⟩ := hag c
    refine ⟨(h.1 c).1.trans ?_, (h.1 c).2.trans ?_, (h.2 c).2.2⟩
    · rw [e0, e1, e2, e3, e4]
    · rw [e1, e2, e3, e4]

end Cert.Decay
-- ==== Proof.Scores.Value.lean ====
/-
  The expert scores: the normalised rows, and per head the query halves against the two key tables.
-/
module

public import Idealize.ShloMosaic.Lib.Quiescent
public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

noncomputable section

namespace Cert.Scores

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The windows' block indices at point `t`. -/
theorem idxs : ∀ t : Fin cfg0.N,
    (win0_0.index t 0 = (t.val : ℕ) ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = (t.val : ℕ) ∧ win0_5.index t 1 = 0)
    ∧ (win0_6.index t 0 = 0 ∧ win0_6.index t 1 = 0 ∧ win0_6.index t 2 = (t.val : ℕ))
    ∧ (win0_7.index t 0 = 0 ∧ win0_7.index t 1 = 0 ∧ win0_7.index t 2 = (t.val : ℕ)) :=
  (by decide +kernel : ∀ t : Fin grid0.N, _)

variable (t : Fin cfg0.N)

variable (x0 : Vec Ideal S512x1024 .f32) (x1 : Vec Ideal S1x1024 .f32) (x2 : Vec Ideal S1024x2048 .bf16) (x3 x4 : Vec Ideal S128x128 .bf16)
variable (h : Vec Ideal S512x1024 .bf16) (w : Vec Ideal S1024x256 .bf16)

/-- One head's first half of the query against a key table. -/
theorem headA (k : Fin 128) (i : Fin 512) : k0_pay9 h w x3 (ix3 0 k i)
    = ∑ d : Fin 128, x3 (ix2 k d) * ∑ e : Fin 1024, h (ix2 i e) * w (ix2 e ⟨d.val, by omega⟩) := by
  pointwise [k0_pay9, k0_pay8]

/-- One head's second half of the query against a key table. -/
theorem headB (k : Fin 128) (i : Fin 512) : k0_pay10 h w x3 (ix3 0 k i)
    = ∑ d : Fin 128, x3 (ix2 k d) * ∑ e : Fin 1024, h (ix2 i e) * w (ix2 e ⟨128 + d.val, by omega⟩) := by
  pointwise [k0_pay10, k0_pay8]

/-- A column block of the query weights, read at an index. -/
theorem ld_w (a o : ℕ) (ha : a < 8) (ho : o = 256 * a) (inb) (e : Fin 1024) (d : Fin 256) :
    View.ld x2 (Rect.unit (s := S1024x2048) ![0, o] S1024x256.size inb) (ix2 e d) = x2 (ix2 e ⟨256 * a + d.val, by omega⟩) := by
  subst ho
  pointwise

/-- The block of first-half scores from a block of normalised rows. -/
def scoreA (h : Vec Ideal S512x1024 .bf16) (w : Vec Ideal S1024x2048 .bf16) (k : Vec Ideal S128x128 .bf16) : Vec Ideal S8x128x512 .f32 :=
  fun y => ∑ d : Fin 128, k (ix2 (y 1) d) * ∑ e : Fin 1024, h (ix2 (y 2) e) * w (ix2 e ⟨256 * (y 0).val + d.val, by
    have : (y 0).val < 8 := (y 0).isLt
    omega⟩)

/-- The block of second-half scores from a block of normalised rows. -/
def scoreB (h : Vec Ideal S512x1024 .bf16) (w : Vec Ideal S1024x2048 .bf16) (k : Vec Ideal S128x128 .bf16) : Vec Ideal S8x128x512 .f32 :=
  fun y => ∑ d : Fin 128, k (ix2 (y 1) d) * ∑ e : Fin 1024, h (ix2 (y 2) e) * w (ix2 e ⟨256 * (y 0).val + (128 + d.val), by
    have : (y 0).val < 8 := (y 0).isLt
    omega⟩)

theorem emb_o (a : ℕ) (ha : a < 8) (inb) (k : Fin 128) (i : Fin 512) :
    (Rect.unit (s := S8x128x512) ![a, 0, 0] S1x128x512.size inb).emb (ix3 (n0 := 1) (n1 := 128) (n2 := 512) 0 k i) = ix3 ⟨a, ha⟩ k i := by
  funext b; apply Fin.ext
  refine (Rect.idx_unit_val _ _ inb _ b).trans ?_
  match b with
  | ⟨0, _⟩ => rfl
  | ⟨1, _⟩ => exact Nat.zero_add _
  | ⟨2, _⟩ => exact Nat.zero_add _

/-- Head `a`'s first-half store is its block of `scoreA`. -/
theorem pieceA (a o : ℕ) (ha : a < 8) (ho : o = 256 * a) (inbW) (inb) (x : S1x128x512.Idx) :
    k0_pay9 (k0_pay3 x0 x1) (View.ld x2 (Rect.unit (s := S1024x2048) ![0, o] S1024x256.size inbW)) x3 x
      = scoreA (k0_pay3 x0 x1) x2 x3 ((Rect.unit (s := S8x128x512) ![a, 0, 0] S1x128x512.size inb).emb x) := by
  obtain ⟨k, i, rfl⟩ : ∃ (k : Fin 128) (i : Fin 512), x = ix3 (n0 := 1) (n1 := 128) (n2 := 512) 0 k i :=
    ⟨x 1, x 2, by funext b; match b with | ⟨0, _⟩ => exact Subsingleton.elim (α := Fin 1) _ _ | ⟨1, _⟩ => rfl | ⟨2, _⟩ => rfl⟩
  rw [emb_o a ha, headA]
  exact Finset.sum_congr rfl fun d _ => congrArg _ (Finset.sum_congr rfl fun e _ => congrArg _ (ld_w x2 a o ha ho inbW e _))

/-- Head `a`'s second-half store is its block of `scoreB`. -/
theorem pieceB (a o : ℕ) (ha : a < 8) (ho : o = 256 * a) (inbW) (inb) (x : S1x128x512.Idx) :
    k0_pay10 (k0_pay3 x0 x1) (View.ld x2 (Rect.unit (s := S1024x2048) ![0, o] S1024x256.size inbW)) x3 x
      = scoreB (k0_pay3 x0 x1) x2 x3 ((Rect.unit (s := S8x128x512) ![a, 0, 0] S1x128x512.size inb).emb x) := by
  obtain ⟨k, i, rfl⟩ : ∃ (k : Fin 128) (i : Fin 512), x = ix3 (n0 := 1) (n1 := 128) (n2 := 512) 0 k i :=
    ⟨x 1, x 2, by funext b; match b with | ⟨0, _⟩ => exact Subsingleton.elim (α := Fin 1) _ _ | ⟨1, _⟩ => rfl | ⟨2, _⟩ => rfl⟩
  rw [emb_o a ha, headB]
  exact Finset.sum_congr rfl fun d _ => congrArg _ (Finset.sum_congr rfl fun e _ => congrArg _ (ld_w x2 a o ha ho inbW e _))

theorem sameA7 : k0_pay1 (k0_pay32 h w x3) = k0_pay9 h w x3 := rfl
theorem sameA6 : k0_pay28 h w x3 = k0_pay9 h w x3 := rfl
theorem sameA5 : k0_pay24 h w x3 = k0_pay9 h w x3 := rfl
theorem sameA4 : k0_pay21 (k0_pay20 h w) x3 = k0_pay9 h w x3 := rfl
theorem sameA3 : k0_pay17 h w x3 = k0_pay9 h w x3 := rfl
theorem sameA2 : k0_pay14 (k0_pay13 h w x3) = k0_pay9 h w x3 := rfl
theorem sameB7 : k0_pay2 (k0_pay31 h w) x3 = k0_pay10 h w x3 := rfl
theorem sameB6 : k0_pay29 h w x3 = k0_pay10 h w x3 := rfl
theorem sameB5 : k0_pay26 (k0_pay25 h w x3) = k0_pay10 h w x3 := rfl
theorem sameB4 : k0_pay22 (k0_pay19 h w) x3 = k0_pay10 h w x3 := rfl
theorem sameB3 : k0_pay18 h w x3 = k0_pay10 h w x3 := rfl
theorem sameB2 : k0_pay15 (k0_pay12 h w) x3 = k0_pay10 h w x3 := rfl
theorem sameA0 : k0_pay5 x0 x1 w x3 = k0_pay9 (k0_pay3 x0 x1) w x3 := rfl
theorem sameB0 : k0_pay7 (k0_pay6 x0 x1 w x3) = k0_pay10 (k0_pay3 x0 x1) w x3 := rfl
theorem same33 : k0_pay33 x0 x1 x2 x3 x4 = k0_pay3 x0 x1 := by
  unfold k0_pay33
  frame_out

/-- The eight first-half stores leave `scoreA`. -/
theorem out6 : out0_6 x0 x1 x2 x3 x4 = scoreA (k0_pay3 x0 x1) x2 x3 := by
  funext y
  frame_out
  simp only [same33, sameA0, sameA2, sameA3, sameA4, sameA5, sameA6, sameA7]
  refine View.canon_apply_of_pieces (scoreA (k0_pay3 x0 x1) x2 x3) _ ?_ y (cover0_6 _ _ _ _ _ _ _ _ y)
  intro pc hpc
  rcases List.mem_cons.mp hpc with rfl | hpc
  · exact pieceA x0 x1 x2 x3 7 1792 (by decide) (by decide) _ inb_S8x128x512_S1x128x512_7_0_0
  rcases List.mem_cons.mp hpc with rfl | hpc
  · exact pieceA x0 x1 x2 x3 6 1536 (by decide) (by decide) _ inb_S8x128x512_S1x128x512_6_0_0
  rcases List.mem_cons.mp hpc with rfl | hpc
  · exact pieceA x0 x1 x2 x3 5 1280 (by decide) (by decide) _ inb_S8x128x512_S1x128x512_5_0_0
  rcases List.mem_cons.mp hpc with rfl | hpc
  · exact pieceA x0 x1 x2 x3 4 1024 (by decide) (by decide) _ inb_S8x128x512_S1x128x512_4_0_0
  rcases List.mem_cons.mp hpc with rfl | hpc
  · exact pieceA x0 x1 x2 x3 3 768 (by decide) (by decide) _ inb_S8x128x512_S1x128x512_3_0_0
  rcases List.mem_cons.mp hpc with rfl | hpc
  · exact pieceA x0 x1 x2 x3 2 512 (by decide) (by decide) _ inb_S8x128x512_S1x128x512_2_0_0
  rcases List.mem_cons.mp hpc with rfl | hpc
  · exact pieceA x0 x1 x2 x3 1 256 (by decide) (by decide) _ inb_S8x128x512_S1x128x512_1_0_0
  rcases List.mem_cons.mp hpc with rfl | hpc
  · exact pieceA x0 x1 x2 x3 0 0 (by decide) (by decide) _ inb_S8x128x512_S1x128x512_0_0_0
  nomatch hpc

/-- The eight second-half stores leave `scoreB`. -/
theorem out7 : out0_7 x0 x1 x2 x3 x4 = scoreB (k0_pay3 x0 x1) x2 x4 := by
  funext y
  frame_out
  simp only [same33, sameB0, sameB2, sameB3, sameB4, sameB5, sameB6, sameB7]
  refine View.canon_apply_of_pieces (scoreB (k0_pay3 x0 x1) x2 x4) _ ?_ y (cover0_7 _ _ _ _ _ _ _ _ y)
  intro pc hpc
  rcases List.mem_cons.mp hpc with rfl | hpc
  · exact pieceB x0 x1 x2 x4 7 1792 (by decide) (by decide) _ inb_S8x128x512_S1x128x512_7_0_0
  rcases List.mem_cons.mp hpc with rfl | hpc
  · exact pieceB x0 x1 x2 x4 6 1536 (by decide) (by decide) _ inb_S8x128x512_S1x128x512_6_0_0
  rcases List.mem_cons.mp hpc with rfl | hpc
  · exact pieceB x0 x1 x2 x4 5 1280 (by decide) (by decide) _ inb_S8x128x512_S1x128x512_5_0_0
  rcases List.mem_cons.mp hpc with rfl | hpc
  · exact pieceB x0 x1 x2 x4 4 1024 (by decide) (by decide) _ inb_S8x128x512_S1x128x512_4_0_0
  rcases List.mem_cons.mp hpc with rfl | hpc
  · exact pieceB x0 x1 x2 x4 3 768 (by decide) (by decide) _ inb_S8x128x512_S1x128x512_3_0_0
  rcases List.mem_cons.mp hpc with rfl | hpc
  · exact pieceB x0 x1 x2 x4 2 512 (by decide) (by decide) _ inb_S8x128x512_S1x128x512_2_0_0
  rcases List.mem_cons.mp hpc with rfl | hpc
  · exact pieceB x0 x1 x2 x4 1 256 (by decide) (by decide) _ inb_S8x128x512_S1x128x512_1_0_0
  rcases List.mem_cons.mp hpc with rfl | hpc
  · exact pieceB x0 x1 x2 x4 0 0 (by decide) (by decide) _ inb_S8x128x512_S1x128x512_0_0_0
  nomatch hpc

/-- Row `r`, entry `e` of the normalised rows: the row over its root mean square, times the gain. -/
def normed (x : Vec Ideal S16896x1024 .f32) (g : Vec Ideal S1024 .f32) (r : Fin 16896) (e : Fin 1024) : EReal :=
  x (ix2 r e) * Ideal.rsqrt (Ideal.div (∑ k, x (ix2 r k) * x (ix2 r k)) (Ideal.ofBits FTy.f32 1149239296#32)
    + Ideal.ofBits FTy.f32 897988541#32) * g (ix1 e)

/-- The normalised rows. -/
def specH (x : Vec Ideal S16896x1024 .f32) (g : Vec Ideal S1024 .f32) : Vec Ideal S16896x1024 .bf16 := fun y => normed x g (y 0) (y 1)

/-- The scores of one query half, whose columns start at `o` in each head's, against the key table. -/
def specS (o : Fin 129) (x : Vec Ideal S16896x1024 .f32) (g : Vec Ideal S1024 .f32) (w : Vec Ideal S1024x2048 .f32) (k : Vec Ideal S128x128 .f32) :
    Vec Ideal S8x128x16896 .f32 :=
  fun y => ∑ d : Fin 128, k (ix2 (y 1) d) * ∑ e : Fin 1024, normed x g (y 2) e * w (ix2 e ⟨256 * (y 0).val + (o.val + d.val), by
    have : (y 0).val < 8 := (y 0).isLt
    omega⟩)

/-- The array row of row `i` of block `t`. -/
def row (i : Fin 512) : Fin 16896 := ⟨512 * t.val + i.val, by
  have := lt_of_lt_of_eq t.isLt (show cfg0.N = 33 from N_0); omega⟩

theorem row_val (i : Fin 512) : (row t i).val = 512 * t.val + i.val := rfl

/-- The arguments, as arrays. -/
abbrev ax : Vec Ideal S16896x1024 .f32 := m ((c : Thread nD τ).loc main_arg0)
abbrev ag : Vec Ideal S1024 .f32 := m ((c : Thread nD τ).loc main_arg1)
abbrev aw : Vec Ideal S1024x2048 .f32 := m ((c : Thread nD τ).loc main_arg2)
abbrev aa : Vec Ideal S128x128 .f32 := m ((c : Thread nD τ).loc main_arg3)
abbrev ab : Vec Ideal S128x128 .f32 := m ((c : Thread nD τ).loc main_arg4)

theorem emb5 (i : Fin 512) (j : Fin 1024) : ((cfg0.win 5).blk t).view.emb (ix2 i j) = (ix2 (row t i) j : S16896x1024.Idx) := by
  obtain ⟨-, -, -, -, -, ⟨h0, h1⟩, -⟩ := idxs t
  blk_ext [h0, h1, row_val]

theorem emb6 (a : Fin 8) (k : Fin 128) (i : Fin 512) : ((cfg0.win 6).blk t).view.emb (ix3 a k i) = (ix3 a k (row t i) : S8x128x16896.Idx) := by
  obtain ⟨-, -, -, -, -, -, ⟨h0, h1, h2⟩, -⟩ := idxs t
  blk_ext [h0, h1, h2, row_val]

theorem emb7 (a : Fin 8) (k : Fin 128) (i : Fin 512) : ((cfg0.win 7).blk t).view.emb (ix3 a k i) = (ix3 a k (row t i) : S8x128x16896.Idx) := by
  obtain ⟨-, -, -, -, -, -, -, h0, h1, h2⟩ := idxs t
  blk_ext [h0, h1, h2, row_val]

theorem blk0 (i : Fin 512) (k : Fin 1024) : (iblk m c 0 t : Vec Ideal S512x1024 .f32) (ix2 i k) = ax m c (ix2 (row t i) k) := by
  obtain ⟨⟨h0, h1⟩, -⟩ := idxs t
  blk_ext! [iblk, V, h0, h1, row_val]

theorem blk1 (k : Fin 1024) : (iblk m c 1 t : Vec Ideal S1x1024 .f32) (ix2 0 k) = ag m c (ix1 k) := by
  obtain ⟨-, ⟨h0, h1⟩, -⟩ := idxs t
  blk_ext! [iblk, V, h0, h1]

theorem blk2 (k : Fin 1024) (j : Fin 2048) : (iblk m c 2 t : Vec Ideal S1024x2048 .bf16) (ix2 k j) = aw m c (ix2 k j) := by
  obtain ⟨-, -, ⟨h0, h1⟩, -⟩ := idxs t
  blk_ext! [iblk, V, h0, h1]

theorem blk3 (k j : Fin 128) : (iblk m c 3 t : Vec Ideal S128x128 .bf16) (ix2 k j) = aa m c (ix2 k j) := by
  obtain ⟨-, -, -, ⟨h0, h1⟩, -⟩ := idxs t
  blk_ext! [iblk, V, h0, h1]

theorem blk4 (k j : Fin 128) : (iblk m c 4 t : Vec Ideal S128x128 .bf16) (ix2 k j) = ab m c (ix2 k j) := by
  obtain ⟨-, -, -, -, ⟨h0, h1⟩, -⟩ := idxs t
  blk_ext! [iblk, V, h0, h1]

/-- The block of normalised rows at point `t`. -/
theorem blkH (i : Fin 512) (e : Fin 1024) : k0_pay3 (iblk m c 0 t : Vec Ideal S512x1024 .f32) (iblk m c 1 t : Vec Ideal S1x1024 .f32) (ix2 i e) = normed (ax m c) (ag m c) (row t i) e := by
  pointwise [k0_pay3]
  simp only [blk0, blk1]
  rfl

/-- The normalised rows the kernel leaves. -/
theorem kernel5 : (dats m 0 c).arrAt 5 (cfgs 0).N = specH (ax m c) (ag m c) := by
  refine (dats m 0 c).arrAt_eq_of_covers 5 _ (by decide +kernel) fun t hf y => ?_
  blk_simp
  rw [after0_5]
  frame_out
  idx_vars y
  exact (blkH m c t y0 y1).trans (congrArg (specH _ _) (emb5 t y0 y1).symm)

/-- A block of first-half scores, at an entry. -/
theorem blkA (a : Fin 8) (k : Fin 128) (i : Fin 512) :
    scoreA (k0_pay3 (iblk m c 0 t : Vec Ideal S512x1024 .f32) (iblk m c 1 t : Vec Ideal S1x1024 .f32)) (iblk m c 2 t : Vec Ideal S1024x2048 .bf16)
      (iblk m c 3 t : Vec Ideal S128x128 .bf16) (ix3 a k i) = specS 0 (ax m c) (ag m c) (aw m c) (aa m c) (ix3 a k (row t i)) := by
  refine Finset.sum_congr rfl fun d _ => congr (congrArg (fun (p q : EReal) => p * q) (blk3 m c t k d))
    (Finset.sum_congr rfl fun e _ => congr (congrArg (fun (p q : EReal) => p * q) (blkH m c t i e)) ?_)
  refine (blk2 m c t e _).trans (congrArg (fun j => aw m c (ix2 e j)) (Fin.ext ?_))
  exact congrArg (fun q => 256 * a.val + q) (Nat.zero_add _).symm

/-- A block of second-half scores, at an entry. -/
theorem blkB (a : Fin 8) (k : Fin 128) (i : Fin 512) :
    scoreB (k0_pay3 (iblk m c 0 t : Vec Ideal S512x1024 .f32) (iblk m c 1 t : Vec Ideal S1x1024 .f32)) (iblk m c 2 t : Vec Ideal S1024x2048 .bf16)
      (iblk m c 4 t : Vec Ideal S128x128 .bf16) (ix3 a k i) = specS 128 (ax m c) (ag m c) (aw m c) (ab m c) (ix3 a k (row t i)) := by
  refine Finset.sum_congr rfl fun d _ => congr (congrArg (fun (p q : EReal) => p * q) (blk4 m c t k d))
    (Finset.sum_congr rfl fun e _ => congr (congrArg (fun (p q : EReal) => p * q) (blkH m c t i e)) ?_)
  refine (blk2 m c t e _).trans (congrArg (fun j => aw m c (ix2 e j)) (Fin.ext ?_))
  exact congrArg (fun q => 256 * a.val + q) rfl

/-- The first-half scores the kernel leaves. -/
theorem kernel6 : (dats m 0 c).arrAt 6 (cfgs 0).N = specS 0 (ax m c) (ag m c) (aw m c) (aa m c) := by
  refine (dats m 0 c).arrAt_eq_of_covers 6 _ (by decide +kernel) fun t hf y => ?_
  blk_simp
  rw [after0_6, out6]
  idx_vars y
  exact (blkA m c t y0 y1 y2).trans (congrArg (specS _ _ _ _ _) (emb6 t y0 y1 y2).symm)

/-- The second-half scores the kernel leaves. -/
theorem kernel7 : (dats m 0 c).arrAt 7 (cfgs 0).N = specS 128 (ax m c) (ag m c) (aw m c) (ab m c) := by
  refine (dats m 0 c).arrAt_eq_of_covers 7 _ (by decide +kernel) fun t hf y => ?_
  blk_simp
  rw [after0_7, out7]
  idx_vars y
  exact (blkB m c t y0 y1 y2).trans (congrArg (specS _ _ _ _ _) (emb7 t y0 y1 y2).symm)

/-- Kernel and reference end with equal arrays. -/
theorem algebraic : Cert.algebraic_Kernel2Ideal_Reference2Ideal := by
  intro m g m' g' _ hag
  refine ⟨fun c => specH (ax m c) (ag m c), fun c => specS 0 (ax m c) (ag m c) (aw m c) (aa m c), fun c => specS 128 (ax m c) (ag m c) (aw m c) (ab m c), ?_, ?_⟩
  · exact (θ_run Cert.Kernel2Ideal.defs _ _).mono
      (fun r h c => ⟨(h c).1.trans (kernel5 m c), (h c).2.1.trans (kernel6 m c), (h c).2.2.1.trans (kernel7 m c), (h c).2.2.2⟩)
      (Cert.Kernel2Ideal.Value.run_blocks (F := Ideal) m g)
  · refine (θ_run Cert.Reference2Ideal.defs _ _).mono (fun r h c => ⟨(h c).1.trans ?_, (h c).2.1.trans ?_, (h c).2.2.1.trans ?_, (h c).2.2.2⟩)
      (Cert.Reference2Ideal.Value.run (F := Ideal) m' g')
    · obtain ⟨e0, e1, e2, e3, e4⟩ := hag c
      rw [e0, e1]
      funext y
      idx_vars y
      pointwise [specH, normed]
    · obtain ⟨e0, e1, e2, e3, e4⟩ := hag c
      rw [e0, e1, e2, e3]
      funext y
      idx_vars y
      pointwise [specS, normed]
      refine Finset.sum_congr rfl fun d _ => (mul_comm _ _).trans
        (congrArg (fun q : EReal => (aa m c (ix2 y1 d) : EReal) * q) (Finset.sum_congr rfl fun e _ => congrArg (fun q : EReal => normed (ax m c) (ag m c) y2 e * q) ?_))
      exact congrArg (fun j => aw m c (ix2 e j)) (Fin.ext (congrArg (fun q => q + _) (Nat.mul_comm _ _)))
    · obtain ⟨e0, e1, e2, e3, e4⟩ := hag c
      rw [e0, e1, e2, e4]
      funext y
      idx_vars y
      pointwise [specS, normed]
      refine Finset.sum_congr rfl fun d _ => (mul_comm _ _).trans
        (congrArg (fun q : EReal => (ab m c (ix2 y1 d) : EReal) * q) (Finset.sum_congr rfl fun e _ => congrArg (fun q : EReal => normed (ax m c) (ag m c) y2 e * q) ?_))
      exact congrArg (fun j => aw m c (ix2 e j)) (Fin.ext (congrArg (fun q => q + _) (Nat.mul_comm _ _)))

/-- The reference runs to its end, leaves its arguments and no semaphore up. -/
theorem frame_ref : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

end Cert.Scores

end
-- ==== Proof.Residual.Value.lean ====
/-
  The output projection with its residual: the kernel's array after the run is the residual plus the product, row by row.
-/
module

public import Idealize.ShloMosaic.Lib.Quiescent
public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

noncomputable section

namespace Cert.Residual

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The row's mixed features: the prompt's rows first, the samples' after them. -/
def mixed (cp : Vec Ideal S16384x1536 .f32) (cs : Vec Ideal S512x1536 .f32) (r : Fin 16896) (k : Fin 1536) : EReal :=
  if h : r.val < 16384 then cp (ix2 ⟨r.val, h⟩ k) else cs (ix2 ⟨r.val - 16384, by omega⟩ k)

/-- The residual plus the projected features. -/
def spec (cp : Vec Ideal S16384x1536 .f32) (cs : Vec Ideal S512x1536 .f32) (w : Vec Ideal S1536x1024 .f32)
    (x : Vec Ideal S16896x1024 .f32) : Vec Ideal S16896x1024 .f32 :=
  fun y => x y + ∑ k : Fin 1536, mixed cp cs (y 0) k * w (ix2 k (y 1))

/-- The windows' block indices at point `t`. -/
theorem idxs : ∀ t : Fin cfg0.N,
    (win0_0.index t 0 = (t.val : ℕ) ∧ win0_0.index t 1 = 0) ∧ (win0_1.index t 0 = 0 ∧ win0_1.index t 1 = 0)
    ∧ (win0_2.index t 0 = (t.val : ℕ) ∧ win0_2.index t 1 = 0) ∧ (win0_3.index t 0 = (t.val : ℕ) ∧ win0_3.index t 1 = 0) :=
  (by decide +kernel : ∀ t : Fin grid0.N, _)

variable (t : Fin cfg0.N)

/-- The array row of row `i` of block `t`. -/
def row (i : Fin 512) : Fin 16896 := ⟨512 * t.val + i.val, by
  have := lt_of_lt_of_eq t.isLt (show cfg0.N = 33 from N_0); omega⟩

theorem row_val (i : Fin 512) : (row t i).val = 512 * t.val + i.val := rfl

theorem emb3 (i : Fin 512) (j : Fin 1024) : ((cfg0.win 3).blk t).view.emb (ix2 i j) = (ix2 (row t i) j : S16896x1024.Idx) := by
  obtain ⟨-, -, -, h6, h7⟩ := idxs t
  blk_ext [h6, h7, row_val]

theorem blk0 (i : Fin 512) (k : Fin 1536) : (iblk m c 0 t : Vec Ideal S512x1536 .bf16) (ix2 i k)
    = mixed (m ((c : Thread nD τ).loc main_arg0)) (m ((c : Thread nD τ).loc main_arg1)) (row t i) k := by
  obtain ⟨⟨h0, h1⟩, -⟩ := idxs t
  unfold mixed
  have hr := row_val t i
  by_cases h : (row t i).val < 16384
  · rw [dif_pos h]
    have h' : t.val * 512 + i.val < 16384 := by omega
    blk_ext! [iblk, V, h0, h1, row_val, h', dite_true, dite_false]
  · rw [dif_neg h]
    have h' : ¬ t.val * 512 + i.val < 16384 := by omega
    blk_ext! [iblk, V, h0, h1, row_val, h', dite_true, dite_false]

theorem blk1 (k : Fin 1536) (j : Fin 1024) : (iblk m c 1 t : Vec Ideal S1536x1024 .bf16) (ix2 k j) = m ((c : Thread nD τ).loc main_arg2) (ix2 k j) := by
  obtain ⟨-, ⟨h0, h1⟩, -⟩ := idxs t
  blk_ext! [iblk, V, h0, h1]

theorem blk2 (i : Fin 512) (j : Fin 1024) : (iblk m c 2 t : Vec Ideal S512x1024 .f32) (ix2 i j) = m ((c : Thread nD τ).loc main_arg3) (ix2 (row t i) j) := by
  obtain ⟨-, -, ⟨h0, h1⟩, -⟩ := idxs t
  blk_ext! [iblk, V, h0, h1, row_val]

/-- The array the kernel leaves. -/
theorem kernel_eq : (dats m 0 c).arrAt 3 (cfgs 0).N = spec (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  blk_simp
  rw [after0_3]
  frame_out
  idx_vars y
  have he := emb3 t y0 y1
  refine Eq.trans ?_ (congrArg (spec _ _ _ _) he.symm)
  pointwise [k0_pay1, spec]
  simp only [blk0, blk1, blk2]

/-- Kernel and reference end with equal arrays. -/
theorem algebraic : Cert.algebraic_Kernel3Ideal_Reference3Ideal := by
  intro m g m' g' _ hag
  refine ⟨fun c => spec (m ((c : Thread nD τ).loc main_arg0)) (m ((c : Thread nD τ).loc main_arg1))
    (m ((c : Thread nD τ).loc main_arg2)) (m ((c : Thread nD τ).loc main_arg3)), ?_, ?_⟩
  · exact (θ_run Cert.Kernel3Ideal.defs _ _).mono (fun r h c => ⟨(h c).1.trans (kernel_eq m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1, e2, e3⟩ := hag c
    rw [e0, e1, e2, e3]
    funext y
    idx_vars y
    pointwise [spec, mixed]
    by_cases hy : y0.val < 16384
    · simp only [dif_pos hy]
    · simp only [dif_neg hy]
      have e : (⟨16384 + (y0.val - 16384), by omega⟩ : Fin 16896) = y0 := Fin.ext (by simp only; omega)
      rw [e]

/-- The reference runs to its end, leaves its arguments and no semaphore up. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

end Cert.Residual

end
-- ==== Proof.Even.BodyIdeal.lean ====
/-
  The even layer's input projections: the body at every point of the grid, the run and the frame.
  The first points' stores go to the windows of the prompt's rows, the last two's to those of the sample's rows; a window
  is left as it was found at the other points, and the last prompt block is written back at the last point of all.
-/
module

public import proofs.«01_k».proof.Proof.Gen.Kernel4Ideal.Skeleton
public import proofs.«01_k».proof.Proof.Gen.Kernel4Ideal.Frame
public import Idealize.ShloMosaic.Lib.Pipeline.Frame
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources a run owns. -/
abbrev Res (F : FTy → Type) := MT nD τ sig Unit (Elt F) ℕ (UR sig nD τ) ℕ

variable (m : (ℓ : Loc nD τ sig) → Buf (Elt F) ℓ) (ρ : Dev nD → PrngReg)

/-! ## What the body stores -/

/-- The whole of a 1024x1536 block. -/
abbrev rS1024x1536 : Rect S1024x1536 := Rect.unit (s := S1024x1536) ![0, 0] S1024x1536.size inb_S1024x1536_S1024x1536_0_0
/-- The whole of a 1024x256 block. -/
abbrev rS1024x256 : Rect S1024x256 := Rect.unit (s := S1024x256) ![0, 0] S1024x256.size inb_S1024x256_S1024x256_0_0
/-- The whole of a 1024x512 block. -/
abbrev rS1024x512 : Rect S1024x512 := Rect.unit (s := S1024x512) ![0, 0] S1024x512.size inb_S1024x512_S1024x512_0_0
/-- The whole of a 1x1024 block. -/
abbrev rS1x1024 : Rect S1x1024 := Rect.unit (s := S1x1024) ![0, 0] S1x1024.size inb_S1x1024_S1x1024_0_0
/-- The whole of a 256x1024 block. -/
abbrev rS256x1024 : Rect S256x1024 := Rect.unit (s := S256x1024) ![0, 0] S256x1024.size inb_S256x1024_S256x1024_0_0
/-- The whole of a 256x1536 block. -/
abbrev rS256x1536 : Rect S256x1536 := Rect.unit (s := S256x1536) ![0, 0] S256x1536.size inb_S256x1536_S256x1536_0_0
/-- The whole of a 256x256 block. -/
abbrev rS256x256 : Rect S256x256 := Rect.unit (s := S256x256) ![0, 0] S256x256.size inb_S256x256_S256x256_0_0
/-- The whole of a 256x512 block. -/
abbrev rS256x512 : Rect S256x512 := Rect.unit (s := S256x512) ![0, 0] S256x512.size inb_S256x512_S256x512_0_0

/-- One store of the whole block covers it. -/
theorem coverS256x1536 (p0 : Vec F S256x1536 .f32) (y : S256x1536.Idx) : ∃ pc ∈ ([⟨rS256x1536, p0⟩] : List (View.Piece (Elt F) S256x1536 .f32)), y ∈ pc.1.set :=
  View.cover_of_tiled [⟨rS256x1536, p0⟩] S256x1536.size (by rfl) y

/-- One store of the whole block covers it. -/
theorem coverS256x256 (p0 : Vec F S256x256 .f32) (y : S256x256.Idx) : ∃ pc ∈ ([⟨rS256x256, p0⟩] : List (View.Piece (Elt F) S256x256 .f32)), y ∈ pc.1.set :=
  View.cover_of_tiled [⟨rS256x256, p0⟩] S256x256.size (by rfl) y

/-- One store of the whole block covers it. -/
theorem coverS256x512 (p0 : Vec F S256x512 .f32) (y : S256x512.Idx) : ∃ pc ∈ ([⟨rS256x512, p0⟩] : List (View.Piece (Elt F) S256x512 .f32)), y ∈ pc.1.set :=
  View.cover_of_tiled [⟨rS256x512, p0⟩] S256x512.size (by rfl) y

/-- What a storing point leaves in window 9's block. -/
def out9 (x0 : Vec F S256x1024 .f32) (x1 : Vec F S1x1024 .f32) (x2 : Vec F S1024x1536 .bf16) : Vec F S256x1536 .f32 :=
  View.canon [⟨rS256x1536, k0_pay4 (k0_pay1 (View.ld x0 rS256x1024) (View.ld x1 rS1x1024)) (View.ld x2 rS1024x1536)⟩]
/-- What a storing point leaves in window 10's block. -/
def out10 (x0 : Vec F S256x1024 .f32) (x1 : Vec F S1x1024 .f32) (x2 : Vec F S1024x1536 .bf16) : Vec F S256x1536 .f32 :=
  View.canon [⟨rS256x1536, k0_pay5 (k0_pay1 (View.ld x0 rS256x1024) (View.ld x1 rS1x1024)) (View.ld x2 rS1024x1536)⟩]
/-- What a storing point leaves in window 11's block. -/
def out11 (x0 : Vec F S256x1024 .f32) (x1 : Vec F S1x1024 .f32) (x2 : Vec F S1024x1536 .bf16) : Vec F S256x1536 .f32 :=
  View.canon [⟨rS256x1536, k0_pay6 (k0_pay1 (View.ld x0 rS256x1024) (View.ld x1 rS1x1024)) (View.ld x2 rS1024x1536)⟩]
/-- What a storing point leaves in window 12's block. -/
def out12 (x0 : Vec F S256x1024 .f32) (x1 : Vec F S1x1024 .f32) (x2 : Vec F S1024x256 .bf16) : Vec F S256x256 .f32 :=
  View.canon [⟨rS256x256, k0_pay7 (k0_pay1 (View.ld x0 rS256x1024) (View.ld x1 rS1x1024)) (View.ld x2 rS1024x256)⟩]
/-- What a storing point leaves in window 13's block. -/
def out13 (x0 : Vec F S256x1024 .f32) (x1 : Vec F S1x1024 .f32) (x2 : Vec F S1024x256 .bf16) : Vec F S256x256 .f32 :=
  View.canon [⟨rS256x256, k0_pay8 (k0_pay1 (View.ld x0 rS256x1024) (View.ld x1 rS1x1024)) (View.ld x2 rS1024x256)⟩]
/-- What a storing point leaves in window 14's block. -/
def out14 (x0 : Vec F S256x1024 .f32) (x1 : Vec F S1x1024 .f32) (x2 : Vec F S1024x512 .bf16) : Vec F S256x512 .f32 :=
  View.canon [⟨rS256x512, k0_pay9 (k0_pay1 (View.ld x0 rS256x1024) (View.ld x1 rS1x1024)) (View.ld x2 rS1024x512)⟩]
/-- What a storing point leaves in window 15's block. -/
def out15 (x0 : Vec F S256x1024 .f32) (x1 : Vec F S1x1024 .f32) (x2 : Vec F S1024x512 .bf16) : Vec F S256x512 .f32 :=
  View.canon [⟨rS256x512, k0_pay2 (View.ld x0 rS256x1024) (View.ld x1 rS1x1024) (View.ld x2 rS1024x512)⟩]
/-- What a storing point leaves in window 16's block. -/
def out16 (x0 : Vec F S256x1024 .f32) (x1 : Vec F S1x1024 .f32) (x2 : Vec F S1024x1536 .bf16) : Vec F S256x1536 .f32 :=
  View.canon [⟨rS256x1536, k0_pay10 (k0_pay1 (View.ld x0 rS256x1024) (View.ld x1 rS1x1024)) (View.ld x2 rS1024x1536)⟩]
/-- What a storing point leaves in window 17's block. -/
def out17 (x0 : Vec F S256x1024 .f32) (x1 : Vec F S1x1024 .f32) (x2 : Vec F S1024x1536 .bf16) : Vec F S256x1536 .f32 :=
  View.canon [⟨rS256x1536, k0_pay11 (k0_pay1 (View.ld x0 rS256x1024) (View.ld x1 rS1x1024)) (View.ld x2 rS1024x1536)⟩]
/-- What a storing point leaves in window 18's block. -/
def out18 (x0 : Vec F S256x1024 .f32) (x1 : Vec F S1x1024 .f32) (x2 : Vec F S1024x1536 .bf16) : Vec F S256x1536 .f32 :=
  View.canon [⟨rS256x1536, k0_pay12 (k0_pay1 (View.ld x0 rS256x1024) (View.ld x1 rS1x1024)) (View.ld x2 rS1024x1536)⟩]
/-- What a storing point leaves in window 19's block. -/
def out19 (x0 : Vec F S256x1024 .f32) (x1 : Vec F S1x1024 .f32) (x2 : Vec F S1024x256 .bf16) : Vec F S256x256 .f32 :=
  View.canon [⟨rS256x256, k0_pay13 (k0_pay1 (View.ld x0 rS256x1024) (View.ld x1 rS1x1024)) (View.ld x2 rS1024x256)⟩]
/-- What a storing point leaves in window 20's block. -/
def out20 (x0 : Vec F S256x1024 .f32) (x1 : Vec F S1x1024 .f32) (x2 : Vec F S1024x256 .bf16) : Vec F S256x256 .f32 :=
  View.canon [⟨rS256x256, k0_pay14 (k0_pay1 (View.ld x0 rS256x1024) (View.ld x1 rS1x1024)) (View.ld x2 rS1024x256)⟩]
/-- What a storing point leaves in window 21's block. -/
def out21 (x0 : Vec F S256x1024 .f32) (x1 : Vec F S1x1024 .f32) (x2 : Vec F S1024x512 .bf16) : Vec F S256x512 .f32 :=
  View.canon [⟨rS256x512, k0_pay15 (k0_pay1 (View.ld x0 rS256x1024) (View.ld x1 rS1x1024)) (View.ld x2 rS1024x512)⟩]
/-- What a storing point leaves in window 22's block. -/
def out22 (x0 : Vec F S256x1024 .f32) (x1 : Vec F S1x1024 .f32) (x2 : Vec F S1024x512 .bf16) : Vec F S256x512 .f32 :=
  View.canon [⟨rS256x512, k0_pay3 (View.ld x0 rS256x1024) (View.ld x1 rS1x1024) (View.ld x2 rS1024x512)⟩]

set_option maxHeartbeats 4000000 in
/-- The body at one of the prompt's points: the inputs stay, the prompt's windows end at the products. -/
theorem run_head (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1024x1536 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x1536 .f32) (harg10 : arg10.IsWhole) (arg11 : Memref sig .tc .vmem S256x1536 .f32) (harg11 : arg11.IsWhole) (arg12 : Memref sig .tc .vmem S256x1536 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1536 .f32) (harg17 : arg17.IsWhole) (arg18 : Memref sig .tc .vmem S256x1536 .f32) (harg18 : arg18.IsWhole) (arg19 : Memref sig .tc .vmem S256x1536 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x512 .f32) (harg22 : arg22.IsWhole) (arg23 : Memref sig .tc .vmem S256x512 .f32) (harg23 : arg23.IsWhole) (hc0 : k0_cond1 i = 1#1) (hc1 : ¬k0_cond2 i = 1#1)
    (x0 : Vec F S256x1024 .f32) (x1 : Vec F S1x1024 .f32) (x2 : Vec F S1024x1536 .bf16) (x3 : Vec F S1024x1536 .bf16) (x4 : Vec F S1024x1536 .bf16) (x5 : Vec F S1024x256 .bf16) (x6 : Vec F S1024x256 .bf16) (x7 : Vec F S1024x512 .bf16) (x8 : Vec F S1024x512 .bf16) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2) ∗ owns (c : Thread nD τ) arg11 fullShare (out10 x0 x1 x3) ∗ owns (c : Thread nD τ) arg12 fullShare (out11 x0 x1 x4) ∗ owns (c : Thread nD τ) arg13 fullShare (out12 x0 x1 x5) ∗ owns (c : Thread nD τ) arg14 fullShare (out13 x0 x1 x6) ∗ owns (c : Thread nD τ) arg15 fullShare (out14 x0 x1 x7) ∗ owns (c : Thread nD τ) arg16 fullShare (out15 x0 x1 x8)) -∗ K ⟨⟩))
      ⊢ wp frame (wpE (defs₀ (F := F)) Variants.none c none) E (cc0_norm_matmul i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_norm_matmul_eq_skeleton]; unfold cc0_norm_matmul_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverS256x1536 _)
  isplitl [H10]
  · iexists _; isplitr
    swap; · iexact H10
    ipureintro
    exact View.read_writes_eq_canon _ _ _ (coverS256x1536 _)
  isplitl [H11]
  · iexists _; isplitr
    swap; · iexact H11
    ipureintro
    exact View.read_writes_eq_canon _ _ _ (coverS256x1536 _)
  isplitl [H12]
  · iexists _; isplitr
    swap; · iexact H12
    ipureintro
    exact View.read_writes_eq_canon _ _ _ (coverS256x256 _)
  isplitl [H13]
  · iexists _; isplitr
    swap; · iexact H13
    ipureintro
    exact View.read_writes_eq_canon _ _ _ (coverS256x256 _)
  isplitl [H14]
  · iexists _; isplitr
    swap; · iexact H14
    ipureintro
    exact View.read_writes_eq_canon _ _ _ (coverS256x512 _)
  iexists _; isplitr
  swap; · iexact H15
  ipureintro
  exact View.read_writes_eq_canon _ _ _ (coverS256x512 _)

set_option maxHeartbeats 4000000 in
/-- The body at one of the sample's points: the inputs stay, the sample's windows end at the products. -/
theorem run_tail (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x1536 .bf16) (harg4 : arg4.IsWhole) (arg5 : Memref sig .tc .vmem S1024x1536 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S256x1536 .f32) (harg10 : arg10.IsWhole) (arg11 : Memref sig .tc .vmem S256x1536 .f32) (harg11 : arg11.IsWhole) (arg12 : Memref sig .tc .vmem S256x1536 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x1536 .f32) (harg17 : arg17.IsWhole) (arg18 : Memref sig .tc .vmem S256x1536 .f32) (harg18 : arg18.IsWhole) (arg19 : Memref sig .tc .vmem S256x1536 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x512 .f32) (harg22 : arg22.IsWhole) (arg23 : Memref sig .tc .vmem S256x512 .f32) (harg23 : arg23.IsWhole) (hc0 : ¬k0_cond1 i = 1#1) (hc1 : k0_cond2 i = 1#1)
    (x0 : Vec F S256x1024 .f32) (x1 : Vec F S1x1024 .f32) (x2 : Vec F S1024x1536 .bf16) (x3 : Vec F S1024x1536 .bf16) (x4 : Vec F S1024x1536 .bf16) (x5 : Vec F S1024x256 .bf16) (x6 : Vec F S1024x256 .bf16) (x7 : Vec F S1024x512 .bf16) (x8 : Vec F S1024x512 .bf16) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg17 fullShare (out16 x0 x1 x2) ∗ owns (c : Thread nD τ) arg18 fullShare (out17 x0 x1 x3) ∗ owns (c : Thread nD τ) arg19 fullShare (out18 x0 x1 x4) ∗ owns (c : Thread nD τ) arg20 fullShare (out19 x0 x1 x5) ∗ owns (c : Thread nD τ) arg21 fullShare (out20 x0 x1 x6) ∗ owns (c : Thread nD τ) arg22 fullShare (out21 x0 x1 x7) ∗ owns (c : Thread nD τ) arg23 fullShare (out22 x0 x1 x8)) -∗ K ⟨⟩))
      ⊢ wp frame (wpE (defs₀ (F := F)) Variants.none c none) E (cc0_norm_matmul i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_norm_matmul_eq_skeleton]; unfold cc0_norm_matmul_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H16]
  · iexists _; isplitr
    swap; · iexact H16
    ipureintro
    exact View.read_writes_eq_canon _ _ _ (coverS256x1536 _)
  isplitl [H17]
  · iexists _; isplitr
    swap; · iexact H17
    ipureintro
    exact View.read_writes_eq_canon _ _ _ (coverS256x1536 _)
  isplitl [H18]
  · iexists _; isplitr
    swap; · iexact H18
    ipureintro
    exact View.read_writes_eq_canon _ _ _ (coverS256x1536 _)
  isplitl [H19]
  · iexists _; isplitr
    swap; · iexact H19
    ipureintro
    exact View.read_writes_eq_canon _ _ _ (coverS256x256 _)
  isplitl [H20]
  · iexists _; isplitr
    swap; · iexact H20
    ipureintro
    exact View.read_writes_eq_canon _ _ _ (coverS256x256 _)
  isplitl [H21]
  · iexists _; isplitr
    swap; · iexact H21
    ipureintro
    exact View.read_writes_eq_canon _ _ _ (coverS256x512 _)
  iexists _; isplitr
  swap; · iexact H22
  ipureintro
  exact View.read_writes_eq_canon _ _ _ (coverS256x512 _)

/-! ## The points -/

/-- The last prompt point at or before `t`. -/
def hd (t : Fin cfg0.N) : Fin cfg0.N := ⟨min t.val 63, lt_of_le_of_lt (min_le_left _ _) t.isLt⟩
/-- The first sample point at or after `t`. -/
def tl (t : Fin cfg0.N) : Fin cfg0.N := ⟨max t.val 64, max_lt t.isLt (by rw [show cfg0.N = 66 from N_0]; decide)⟩

theorem hd_of_lt (t : Fin cfg0.N) (h : t.val < 64) : hd t = t := Fin.ext (min_eq_left (Nat.le_of_lt_succ h))
theorem tl_of_ge (t : Fin cfg0.N) (h : ¬t.val < 64) : tl t = t := Fin.ext (max_eq_left (Nat.not_lt.mp h))

/-- The first condition holds at the prompt's points, -/
theorem cond1_iff : ∀ t : Fin cfg0.N, k0_cond1 (grid0.coords t) = 1#1 ↔ t.val < 64 :=
  (by decide +kernel : ∀ t : Fin grid0.N, k0_cond1 (grid0.coords t) = 1#1 ↔ t.val < 64)
/-- the second at the sample's. -/
theorem cond2_iff : ∀ t : Fin cfg0.N, k0_cond2 (grid0.coords t) = 1#1 ↔ ¬t.val < 64 :=
  (by decide +kernel : ∀ t : Fin grid0.N, k0_cond2 (grid0.coords t) = 1#1 ↔ ¬t.val < 64)

/-- The proof data: the arrays as the region finds them; each input's buffer at its block; a prompt window's at the
    products of the last prompt point so far, a sample window's at those of the first sample point to come. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 (hd t)) (iblk m c 1 (hd t)) (iblk m c 2 (hd t))
    | ⟨10, _⟩ => out10 (iblk m c 0 (hd t)) (iblk m c 1 (hd t)) (iblk m c 3 (hd t))
    | ⟨11, _⟩ => out11 (iblk m c 0 (hd t)) (iblk m c 1 (hd t)) (iblk m c 4 (hd t))
    | ⟨12, _⟩ => out12 (iblk m c 0 (hd t)) (iblk m c 1 (hd t)) (iblk m c 5 (hd t))
    | ⟨13, _⟩ => out13 (iblk m c 0 (hd t)) (iblk m c 1 (hd t)) (iblk m c 6 (hd t))
    | ⟨14, _⟩ => out14 (iblk m c 0 (hd t)) (iblk m c 1 (hd t)) (iblk m c 7 (hd t))
    | ⟨15, _⟩ => out15 (iblk m c 0 (hd t)) (iblk m c 1 (hd t)) (iblk m c 8 (hd t))
    | ⟨16, _⟩ => out16 (iblk m c 0 (tl t)) (iblk m c 1 (tl t)) (iblk m c 2 (tl t))
    | ⟨17, _⟩ => out17 (iblk m c 0 (tl t)) (iblk m c 1 (tl t)) (iblk m c 3 (tl t))
    | ⟨18, _⟩ => out18 (iblk m c 0 (tl t)) (iblk m c 1 (tl t)) (iblk m c 4 (tl t))
    | ⟨19, _⟩ => out19 (iblk m c 0 (tl t)) (iblk m c 1 (tl t)) (iblk m c 5 (tl t))
    | ⟨20, _⟩ => out20 (iblk m c 0 (tl t)) (iblk m c 1 (tl t)) (iblk m c 6 (tl t))
    | ⟨21, _⟩ => out21 (iblk m c 0 (tl t)) (iblk m c 1 (tl t)) (iblk m c 7 (tl t))
    | ⟨22, _⟩ => out22 (iblk m c 0 (tl t)) (iblk m c 1 (tl t)) (iblk m c 8 (tl t))
    | ⟨_ + 23, h⟩ => absurd (show _ + 23 < 23 from h) (by omega)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by dsimp only [dats]

/-! What each window's buffer holds after a point. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 (hd t)) (iblk m c 1 (hd t)) (iblk m c 2 (hd t)) := by dsimp only [dats]
theorem after10 (c : Dev nD) (t : Fin cfg0.N) : (dats m 0 c).after 10 t = out10 (iblk m c 0 (hd t)) (iblk m c 1 (hd t)) (iblk m c 3 (hd t)) := by dsimp only [dats]
theorem after11 (c : Dev nD) (t : Fin cfg0.N) : (dats m 0 c).after 11 t = out11 (iblk m c 0 (hd t)) (iblk m c 1 (hd t)) (iblk m c 4 (hd t)) := by dsimp only [dats]
theorem after12 (c : Dev nD) (t : Fin cfg0.N) : (dats m 0 c).after 12 t = out12 (iblk m c 0 (hd t)) (iblk m c 1 (hd t)) (iblk m c 5 (hd t)) := by dsimp only [dats]
theorem after13 (c : Dev nD) (t : Fin cfg0.N) : (dats m 0 c).after 13 t = out13 (iblk m c 0 (hd t)) (iblk m c 1 (hd t)) (iblk m c 6 (hd t)) := by dsimp only [dats]
theorem after14 (c : Dev nD) (t : Fin cfg0.N) : (dats m 0 c).after 14 t = out14 (iblk m c 0 (hd t)) (iblk m c 1 (hd t)) (iblk m c 7 (hd t)) := by dsimp only [dats]
theorem after15 (c : Dev nD) (t : Fin cfg0.N) : (dats m 0 c).after 15 t = out15 (iblk m c 0 (hd t)) (iblk m c 1 (hd t)) (iblk m c 8 (hd t)) := by dsimp only [dats]
theorem after16 (c : Dev nD) (t : Fin cfg0.N) : (dats m 0 c).after 16 t = out16 (iblk m c 0 (tl t)) (iblk m c 1 (tl t)) (iblk m c 2 (tl t)) := by dsimp only [dats]
theorem after17 (c : Dev nD) (t : Fin cfg0.N) : (dats m 0 c).after 17 t = out17 (iblk m c 0 (tl t)) (iblk m c 1 (tl t)) (iblk m c 3 (tl t)) := by dsimp only [dats]
theorem after18 (c : Dev nD) (t : Fin cfg0.N) : (dats m 0 c).after 18 t = out18 (iblk m c 0 (tl t)) (iblk m c 1 (tl t)) (iblk m c 4 (tl t)) := by dsimp only [dats]
theorem after19 (c : Dev nD) (t : Fin cfg0.N) : (dats m 0 c).after 19 t = out19 (iblk m c 0 (tl t)) (iblk m c 1 (tl t)) (iblk m c 5 (tl t)) := by dsimp only [dats]
theorem after20 (c : Dev nD) (t : Fin cfg0.N) : (dats m 0 c).after 20 t = out20 (iblk m c 0 (tl t)) (iblk m c 1 (tl t)) (iblk m c 6 (tl t)) := by dsimp only [dats]
theorem after21 (c : Dev nD) (t : Fin cfg0.N) : (dats m 0 c).after 21 t = out21 (iblk m c 0 (tl t)) (iblk m c 1 (tl t)) (iblk m c 7 (tl t)) := by dsimp only [dats]
theorem after22 (c : Dev nD) (t : Fin cfg0.N) : (dats m 0 c).after 22 t = out22 (iblk m c 0 (tl t)) (iblk m c 1 (tl t)) (iblk m c 8 (tl t)) := by dsimp only [dats]

/-! Each input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## The obligation -/

/-- A window left alone at a point ends as its post says, if at a point that writes it back the buffer holds what the proof data names. -/
theorem pass (c : Dev nD) (w : Fin cfg0.W) (t : Fin cfg0.N) (hi : cfg0.idle w (grid0.coords t) = true)
    (h : (cfg0.win w).flush t = true → ∀ d, (dats m 0 c).before w t d = (dats m 0 c).after w t) :
    (iprop(∃ d, owns (c : Thread nD τ) ((cfg0.win w).stage (cfg0.slots t w)) fullShare ((dats m 0 c).before w t d)) : sProp (Res F)) ⊢ (dats m 0 c).leavesExact w t := by
  unfold Dat.leavesExact
  rw [hi]
  cases hf : (cfg0.win w).flush t
  · exact .rfl
  · iintro ⟨%d, H⟩
    rw [h hf d]
    iexact H

/-- A window stored into at a point ends at what the proof data names. -/
theorem live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact
  rw [hi]

/-- At a sample point a prompt window's block stays that of the last prompt point. -/
theorem hd_pred (t : Fin cfg0.N) (h : ¬t.val < 64) : hd t = hd ⟨t.val - 1, Nat.lt_of_le_of_lt (Nat.sub_le _ _) t.isLt⟩ := by
  apply Fin.ext; simp only [hd]; omega

/-- The prompt's windows are stored into at the prompt's points only, -/
theorem liveHd : ∀ w : Fin cfg0.W, 9 ≤ w.val → w.val < 16 → ∀ t : Fin cfg0.N, t.val < 64 → cfg0.idle w (grid0.coords t) = false := by
  decide +kernel
theorem idleHd : ∀ w : Fin cfg0.W, 9 ≤ w.val → w.val < 16 → ∀ t : Fin cfg0.N, ¬t.val < 64 → cfg0.idle w (grid0.coords t) = true := by
  decide +kernel
/-- and at the sample's points they still hold what was not written back. -/
theorem staleHd : ∀ w : Fin cfg0.W, 9 ≤ w.val → w.val < 16 → ∀ t : Fin cfg0.N, ¬t.val < 64 → cfg0.fresh w t.val = false := by
  decide +kernel
/-- The sample's windows are stored into at the sample's points only, -/
theorem liveTl : ∀ w : Fin cfg0.W, 16 ≤ w.val → w.val < 23 → ∀ t : Fin cfg0.N, ¬t.val < 64 → cfg0.idle w (grid0.coords t) = false := by
  decide +kernel
theorem idleTl : ∀ w : Fin cfg0.W, 16 ≤ w.val → w.val < 23 → ∀ t : Fin cfg0.N, t.val < 64 → cfg0.idle w (grid0.coords t) = true := by
  decide +kernel
/-- and not written back before. -/
theorem unflushedTl : ∀ w : Fin cfg0.W, 16 ≤ w.val → w.val < 23 → ∀ t : Fin cfg0.N, t.val < 64 → ¬(cfg0.win w).flush t = true := by
  decide +kernel
/-- Every window from the 9th on is an output. -/
theorem outs : ∀ w : Fin cfg0.W, 9 ≤ w.val → (cfg0.win w).isOut = true := by decide +kernel

theorem clips (w : Fin cfg0.W) (h0 : 9 ≤ w.val) (h1 : w.val < 16) (i : cfg0.grid.Coords) (a) : (cfg0.win w).clip i a = none := by
  obtain ⟨w, hw⟩ := w
  obtain rfl | rfl | rfl | rfl | rfl | rfl | rfl : w = 9 ∨ w = 10 ∨ w = 11 ∨ w = 12 ∨ w = 13 ∨ w = 14 ∨ w = 15 := by dsimp only at h0 h1; omega
  all_goals rfl

theorem carry (c : Dev nD) (w : Fin cfg0.W) (h0 : 9 ≤ w.val) (h1 : w.val < 16) (t : Fin cfg0.N) (ht : ¬t.val < 64) :
    (dats m 0 c).after w t = (dats m 0 c).after w ⟨t.val - 1, Nat.lt_of_le_of_lt (Nat.sub_le _ _) t.isLt⟩ := by
  obtain ⟨w, hw⟩ := w
  obtain rfl | rfl | rfl | rfl | rfl | rfl | rfl : w = 9 ∨ w = 10 ∨ w = 11 ∨ w = 12 ∨ w = 13 ∨ w = 14 ∨ w = 15 := by dsimp only at h0 h1; omega
  all_goals (dsimp only [dats]; rw [← hd_pred t ht])

/-- A prompt window at a sample point holds the last prompt block's products. -/
theorem kept (c : Dev nD) (w : Fin cfg0.W) (h0 : 9 ≤ w.val) (h1 : w.val < 16) (t : Fin cfg0.N) (ht : ¬t.val < 64) (d) :
    (dats m 0 c).before w t d = (dats m 0 c).after w t := by
  rw [(dats m 0 c).before_out_traj w (outs w h0) (clips w h0 h1) (fun t _ hi _ => carry m c w h0 h1 t fun hl =>
    Bool.false_ne_true ((liveHd w h0 h1 t hl).symm.trans hi)) t.val t rfl d, staleHd w h0 h1 t ht, if_neg Bool.false_ne_true, carry m c w h0 h1 t ht]

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    live m c 0 t rfl, live m c 1 t rfl, live m c 2 t rfl, live m c 3 t rfl, live m c 4 t rfl, live m c 5 t rfl, live m c 6 t rfl, live m c 7 t rfl, live m c 8 t rfl, after0, after1, after2, after3, after4, after5, after6, after7, after8]
  by_cases h : t.val < 64
  · rw [live m c 9 t (liveHd 9 (by decide) (by decide) t h), live m c 10 t (liveHd 10 (by decide) (by decide) t h), live m c 11 t (liveHd 11 (by decide) (by decide) t h), live m c 12 t (liveHd 12 (by decide) (by decide) t h), live m c 13 t (liveHd 13 (by decide) (by decide) t h), live m c 14 t (liveHd 14 (by decide) (by decide) t h), live m c 15 t (liveHd 15 (by decide) (by decide) t h), after9, after10, after11, after12, after13, after14, after15, hd_of_lt t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17, H18, H19, H20, H21, H22⟩
    iapply (run_head c Set.univ (grid0.coords t) _ _ _ _ _ _ _ _ _ _ _ _ _ _ _ _ _ _ _ _ _ _ _ _ _ _ _ _ _ _ _ _ _ _ _ _ _ _ _ _ _ _ _ _ _ _ ((cond1_iff t).mpr h) (fun q => (cond2_iff t).mp q h) (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, H8, H9, H10, H11, H12, H13, H14, H15⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iapply (pass m c 16 t (idleTl 16 (by decide) (by decide) t h) fun hf => absurd hf (unflushedTl 16 (by decide) (by decide) t h)); iexact H16
    isplitl [H17]; · iapply (pass m c 17 t (idleTl 17 (by decide) (by decide) t h) fun hf => absurd hf (unflushedTl 17 (by decide) (by decide) t h)); iexact H17
    isplitl [H18]; · iapply (pass m c 18 t (idleTl 18 (by decide) (by decide) t h) fun hf => absurd hf (unflushedTl 18 (by decide) (by decide) t h)); iexact H18
    isplitl [H19]; · iapply (pass m c 19 t (idleTl 19 (by decide) (by decide) t h) fun hf => absurd hf (unflushedTl 19 (by decide) (by decide) t h)); iexact H19
    isplitl [H20]; · iapply (pass m c 20 t (idleTl 20 (by decide) (by decide) t h) fun hf => absurd hf (unflushedTl 20 (by decide) (by decide) t h)); iexact H20
    isplitl [H21]; · iapply (pass m c 21 t (idleTl 21 (by decide) (by decide) t h) fun hf => absurd hf (unflushedTl 21 (by decide) (by decide) t h)); iexact H21
    iapply (pass m c 22 t (idleTl 22 (by decide) (by decide) t h) fun hf => absurd hf (unflushedTl 22 (by decide) (by decide) t h)); iexact H22
  · rw [live m c 16 t (liveTl 16 (by decide) (by decide) t h), live m c 17 t (liveTl 17 (by decide) (by decide) t h), live m c 18 t (liveTl 18 (by decide) (by decide) t h), live m c 19 t (liveTl 19 (by decide) (by decide) t h), live m c 20 t (liveTl 20 (by decide) (by decide) t h), live m c 21 t (liveTl 21 (by decide) (by decide) t h), live m c 22 t (liveTl 22 (by decide) (by decide) t h), after16, after17, after18, after19, after20, after21, after22, tl_of_ge t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12, H13, H14, H15, ⟨%d16, H16⟩, ⟨%d17, H17⟩, ⟨%d18, H18⟩, ⟨%d19, H19⟩, ⟨%d20, H20⟩, ⟨%d21, H21⟩, ⟨%d22, H22⟩⟩
    iapply (run_tail c Set.univ (grid0.coords t) _ _ _ _ _ _ _ _ _ _ _ _ _ _ _ _ _ _ _ _ _ _ _ _ _ _ _ _ _ _ _ _ _ _ _ _ _ _ _ _ _ _ _ _ _ _ (fun q => h ((cond1_iff t).mp q)) ((cond2_iff t).mpr h) (iblk m c 0 t) (iblk m c 1 t) (iblk m c 2 t) (iblk m c 3 t) (iblk m c 4 t) (iblk m c 5 t) (iblk m c 6 t) (iblk m c 7 t) (iblk m c 8 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iintro ⟨H0, H1, H2, H3, H4, H5, H6, H7, H8, H16, H17, H18, H19, H20, H21, H22⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply (pass m c 9 t (idleHd 9 (by decide) (by decide) t h) fun _ => kept m c 9 (by decide) (by decide) t h); iexact H9
    isplitl [H10]; · iapply (pass m c 10 t (idleHd 10 (by decide) (by decide) t h) fun _ => kept m c 10 (by decide) (by decide) t h); iexact H10
    isplitl [H11]; · iapply (pass m c 11 t (idleHd 11 (by decide) (by decide) t h) fun _ => kept m c 11 (by decide) (by decide) t h); iexact H11
    isplitl [H12]; · iapply (pass m c 12 t (idleHd 12 (by decide) (by decide) t h) fun _ => kept m c 12 (by decide) (by decide) t h); iexact H12
    isplitl [H13]; · iapply (pass m c 13 t (idleHd 13 (by decide) (by decide) t h) fun _ => kept m c 13 (by decide) (by decide) t h); iexact H13
    isplitl [H14]; · iapply (pass m c 14 t (idleHd 14 (by decide) (by decide) t h) fun _ => kept m c 14 (by decide) (by decide) t h); iexact H14
    isplitl [H15]; · iapply (pass m c 15 t (idleHd 15 (by decide) (by decide) t h) fun _ => kept m c 15 (by decide) (by decide) t h); iexact H15
    isplitl [H16]; · iexact H16
    isplitl [H17]; · iexact H17
    isplitl [H18]; · iexact H18
    isplitl [H19]; · iexact H19
    isplitl [H20]; · iexact H20
    isplitl [H21]; · iexact H21
    iexact H22

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 1600000 in
/-- The run: every pipeline array at what the proof data compute, the other buffers as the region found them, and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Hand

end
-- ==== Proof.Even.Blocks.lean ====
/-
  The even layer's input projections: the rows and weights of each window's block, and what a point stores.
-/
module

public import proofs.«01_k».proof.Proof.Even.BodyIdeal
public import Idealize.ShloMosaic.Lib.Pointwise
public import Idealize.ShloMosaic.Lib.Pipeline.ValueKit

@[expose] public section

set_option maxRecDepth 16384

noncomputable section

namespace Cert.Even

open Cert.Kernel4Ideal Cert.Kernel4Ideal.Gen Cert.Kernel4Ideal.Hand Idealize.ShloMosaic Idealize.ShloMosaic.TcCoe Idealize.SL.Sem

variable (m : (ℓ : Loc nD τ sig) → Buf (Elt Ideal) ℓ) (c : Dev nD)

/-! ## The layer's projections -/

/-- A row over its root mean square, times the gain. -/
def normed (x g : Fin 1024 → EReal) (k : Fin 1024) : EReal :=
  x k * Ideal.rsqrt (Ideal.div (∑ l : Fin 1024, x l * x l) (Ideal.ofBits FTy.f32 1149239296#32) + Ideal.ofBits FTy.f32 897988541#32) * g k

/-- The normed row times one column of the weights. -/
def proj (x g w : Fin 1024 → EReal) : EReal := ∑ k : Fin 1024, normed x g k * w k

/-- The `n` projected columns from the `o`th on, of the prompt's row `r`. -/
def prompt (n o : ℕ) (h : o + n ≤ 6144) (xp : Vec Ideal S8x2048x1024 .f32) (g : Vec Ideal S1024 .f32) (w : Vec Ideal S1024x6144 .f32)
    (r : Fin 16384) (j : Fin n) : EReal :=
  proj (fun k => xp (ix3 ⟨r.val / 2048, by omega⟩ ⟨r.val % 2048, by omega⟩ k)) (fun k => g (ix1 k)) fun k => w (ix2 k ⟨o + j.val, by omega⟩)

/-- The same of the sample's row `r`. -/
def sample (n o : ℕ) (h : o + n ≤ 6144) (xs : Vec Ideal S128x4x1024 .f32) (g : Vec Ideal S1024 .f32) (w : Vec Ideal S1024x6144 .f32)
    (r : Fin 512) (j : Fin n) : EReal :=
  proj (fun k => xs (ix3 ⟨r.val / 4, by omega⟩ ⟨r.val % 4, by omega⟩ k)) (fun k => g (ix1 k)) fun k => w (ix2 k ⟨o + j.val, by omega⟩)

/-! ## The windows' blocks -/

/-- The inputs' block indices at point `t`: the rows' moves, the others stay. -/
theorem inIdx : ∀ t : Fin cfg0.N, (win0_0.index t 0 = (t.val : ℕ) ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

/-- The prompt windows' block indices: the point's own up to the last prompt block. -/
theorem hdIdx : ∀ t : Fin cfg0.N, (win0_9.index t 0 = min t.val 63 ∧ win0_9.index t 1 = 0)
    ∧ (win0_10.index t 0 = min t.val 63 ∧ win0_10.index t 1 = 0)
    ∧ (win0_11.index t 0 = min t.val 63 ∧ win0_11.index t 1 = 0)
    ∧ (win0_12.index t 0 = min t.val 63 ∧ win0_12.index t 1 = 0)
    ∧ (win0_13.index t 0 = min t.val 63 ∧ win0_13.index t 1 = 0)
    ∧ (win0_14.index t 0 = min t.val 63 ∧ win0_14.index t 1 = 0)
    ∧ (win0_15.index t 0 = min t.val 63 ∧ win0_15.index t 1 = 0) :=
  (by decide +kernel : ∀ t : Fin grid0.N, _)

/-- The sample windows' block indices. -/
theorem tlIdx : ∀ t : Fin cfg0.N, (win0_16.index t 0 = t.val - 64 ∧ win0_16.index t 1 = 0)
    ∧ (win0_17.index t 0 = t.val - 64 ∧ win0_17.index t 1 = 0)
    ∧ (win0_18.index t 0 = t.val - 64 ∧ win0_18.index t 1 = 0)
    ∧ (win0_19.index t 0 = t.val - 64 ∧ win0_19.index t 1 = 0)
    ∧ (win0_20.index t 0 = t.val - 64 ∧ win0_20.index t 1 = 0)
    ∧ (win0_21.index t 0 = t.val - 64 ∧ win0_21.index t 1 = 0)
    ∧ (win0_22.index t 0 = t.val - 64 ∧ win0_22.index t 1 = 0) :=
  (by decide +kernel : ∀ t : Fin grid0.N, _)

/-- The rows the kernel is called with: the prompt's, then the sample's. -/
def rows (xp : Vec Ideal S8x2048x1024 .f32) (xs : Vec Ideal S128x4x1024 .f32) : Vec Ideal S16896x1024 .f32 :=
  concatenate S16896x1024 0 [⟨S16384x1024, shapeCast S16384x1024 xp shapeCasts_S8x2048x1024_S16384x1024⟩,
    ⟨S512x1024, shapeCast S512x1024 xs shapeCasts_S128x4x1024_S512x1024⟩] concatenates_S16384x1024_S512x1024_S16896x1024_d0

theorem V_rows : V m c main_v2 = rows (m ((c : Thread nD τ).loc main_arg0)) (m ((c : Thread nD τ).loc main_arg1)) := rfl

theorem rows_prompt (xp : Vec Ideal S8x2048x1024 .f32) (xs : Vec Ideal S128x4x1024 .f32) (r : Fin 16896) (k : Fin 1024) (h : r.val < 16384) :
    rows xp xs (ix2 r k) = xp (ix3 ⟨r.val / 2048, by omega⟩ ⟨r.val % 2048, by omega⟩ k) := by
  pointwise [rows]
  rw [dif_pos h]

theorem rows_sample (xp : Vec Ideal S8x2048x1024 .f32) (xs : Vec Ideal S128x4x1024 .f32) (r : Fin 16896) (k : Fin 1024) (h : ¬r.val < 16384) :
    rows xp xs (ix2 r k) = xs (ix3 ⟨(r.val - 16384) / 4, by omega⟩ ⟨(r.val - 16384) % 4, by omega⟩ k) := by
  pointwise [rows]
  rw [dif_neg h]

variable (t : Fin cfg0.N)

/-- The row of row `i` of point `t`'s block, -/
def row (i : Fin 256) : Fin 16896 := ⟨256 * t.val + i.val, by
  have := lt_of_lt_of_eq t.isLt (show cfg0.N = 66 from N_0); omega⟩
theorem row_val (i : Fin 256) : (row t i).val = 256 * t.val + i.val := rfl

/-- of the prompt windows' block there, -/
def hdRow (i : Fin 256) : Fin 16384 := ⟨256 * min t.val 63 + i.val, by omega⟩
theorem hdRow_val (i : Fin 256) : (hdRow t i).val = 256 * min t.val 63 + i.val := rfl

/-- and of the sample windows'. -/
def tlRow (i : Fin 256) : Fin 512 := ⟨256 * (t.val - 64) + i.val, by
  have := lt_of_lt_of_eq t.isLt (show cfg0.N = 66 from N_0); omega⟩
theorem tlRow_val (i : Fin 256) : (tlRow t i).val = 256 * (t.val - 64) + i.val := rfl

theorem blk0 (i : Fin 256) (k : Fin 1024) : (iblk m c 0 t : Vec Ideal S256x1024 .f32) (ix2 i k)
    = rows (m ((c : Thread nD τ).loc main_arg0)) (m ((c : Thread nD τ).loc main_arg1)) (ix2 (row t i) k) := by
  obtain ⟨⟨h0, h1⟩, -⟩ := inIdx t
  rw [← V_rows]
  unfold iblk
  generalize V m c main_v2 = q
  blk_ext! [h0, h1, row_val]

theorem blk1 (k : Fin 1024) : (iblk m c 1 t : Vec Ideal S1x1024 .f32) (ix2 0 k) = m ((c : Thread nD τ).loc main_arg2) (ix1 k) := by
  obtain ⟨-, ⟨h0, h1⟩, -⟩ := inIdx t
  blk_ext! [iblk, V, h0, h1]

set_option maxHeartbeats 8000000 in
/-- The weights' blocks: the columns of the layer's weights in turn. -/
theorem blkW : (∀ (k : Fin 1024) (j : Fin 1536), (iblk m c 2 t : Vec Ideal S1024x1536 .bf16) (ix2 k j) = m ((c : Thread nD τ).loc main_arg3) (ix2 k ⟨0 + j.val, by omega⟩))
    ∧ (∀ (k : Fin 1024) (j : Fin 1536), (iblk m c 3 t : Vec Ideal S1024x1536 .bf16) (ix2 k j) = m ((c : Thread nD τ).loc main_arg3) (ix2 k ⟨1536 + j.val, by omega⟩))
    ∧ (∀ (k : Fin 1024) (j : Fin 1536), (iblk m c 4 t : Vec Ideal S1024x1536 .bf16) (ix2 k j) = m ((c : Thread nD τ).loc main_arg3) (ix2 k ⟨3072 + j.val, by omega⟩))
    ∧ (∀ (k : Fin 1024) (j : Fin 256), (iblk m c 5 t : Vec Ideal S1024x256 .bf16) (ix2 k j) = m ((c : Thread nD τ).loc main_arg3) (ix2 k ⟨4608 + j.val, by omega⟩))
    ∧ (∀ (k : Fin 1024) (j : Fin 256), (iblk m c 6 t : Vec Ideal S1024x256 .bf16) (ix2 k j) = m ((c : Thread nD τ).loc main_arg3) (ix2 k ⟨4864 + j.val, by omega⟩))
    ∧ (∀ (k : Fin 1024) (j : Fin 512), (iblk m c 7 t : Vec Ideal S1024x512 .bf16) (ix2 k j) = m ((c : Thread nD τ).loc main_arg3) (ix2 k ⟨5120 + j.val, by omega⟩))
    ∧ (∀ (k : Fin 1024) (j : Fin 512), (iblk m c 8 t : Vec Ideal S1024x512 .bf16) (ix2 k j) = m ((c : Thread nD τ).loc main_arg3) (ix2 k ⟨5632 + j.val, by omega⟩)) := by
  have h := inIdx t
  refine ⟨?_, ?_, ?_, ?_, ?_, ?_, ?_⟩
  all_goals
    intro k j
    blk_ext! [iblk, V, h]

/-- Where the prompt windows' blocks lie, -/
theorem embHd (i : Fin 256) : (∀ j : Fin 1536, ((cfg0.win 9).blk t).view.emb (ix2 i j) = (ix2 (hdRow t i) j : S16384x1536.Idx))
    ∧ (∀ j : Fin 1536, ((cfg0.win 10).blk t).view.emb (ix2 i j) = (ix2 (hdRow t i) j : S16384x1536.Idx))
    ∧ (∀ j : Fin 1536, ((cfg0.win 11).blk t).view.emb (ix2 i j) = (ix2 (hdRow t i) j : S16384x1536.Idx))
    ∧ (∀ j : Fin 256, ((cfg0.win 12).blk t).view.emb (ix2 i j) = (ix2 (hdRow t i) j : S16384x256.Idx))
    ∧ (∀ j : Fin 256, ((cfg0.win 13).blk t).view.emb (ix2 i j) = (ix2 (hdRow t i) j : S16384x256.Idx))
    ∧ (∀ j : Fin 512, ((cfg0.win 14).blk t).view.emb (ix2 i j) = (ix2 (hdRow t i) j : S16384x512.Idx))
    ∧ (∀ j : Fin 512, ((cfg0.win 15).blk t).view.emb (ix2 i j) = (ix2 (hdRow t i) j : S16384x512.Idx)) := by
  have h := hdIdx t
  refine ⟨?_, ?_, ?_, ?_, ?_, ?_, ?_⟩
  all_goals
    intro j
    blk_ext [h, hdRow_val]

/-- and the sample windows'. -/
theorem embTl (i : Fin 256) : (∀ j : Fin 1536, ((cfg0.win 16).blk t).view.emb (ix2 i j) = (ix2 (tlRow t i) j : S512x1536.Idx))
    ∧ (∀ j : Fin 1536, ((cfg0.win 17).blk t).view.emb (ix2 i j) = (ix2 (tlRow t i) j : S512x1536.Idx))
    ∧ (∀ j : Fin 1536, ((cfg0.win 18).blk t).view.emb (ix2 i j) = (ix2 (tlRow t i) j : S512x1536.Idx))
    ∧ (∀ j : Fin 256, ((cfg0.win 19).blk t).view.emb (ix2 i j) = (ix2 (tlRow t i) j : S512x256.Idx))
    ∧ (∀ j : Fin 256, ((cfg0.win 20).blk t).view.emb (ix2 i j) = (ix2 (tlRow t i) j : S512x256.Idx))
    ∧ (∀ j : Fin 512, ((cfg0.win 21).blk t).view.emb (ix2 i j) = (ix2 (tlRow t i) j : S512x512.Idx))
    ∧ (∀ j : Fin 512, ((cfg0.win 22).blk t).view.emb (ix2 i j) = (ix2 (tlRow t i) j : S512x512.Idx)) := by
  have h := tlIdx t
  refine ⟨?_, ?_, ?_, ?_, ?_, ?_, ?_⟩
  all_goals
    intro j
    blk_ext [h, tlRow_val]

/-- What a point stores, entry by entry: its rows' projections on its weights' columns. -/
theorem out_at (x : Vec Ideal S256x1024 .f32) (g : Vec Ideal S1x1024 .f32) (i : Fin 256) : (∀ (w : Vec Ideal S1024x1536 .bf16) (j : Fin 1536), out9 x g w (ix2 i j) = proj (fun k => x (ix2 i k)) (fun k => g (ix2 0 k)) fun k => w (ix2 k j))
    ∧ (∀ (w : Vec Ideal S1024x1536 .bf16) (j : Fin 1536), out10 x g w (ix2 i j) = proj (fun k => x (ix2 i k)) (fun k => g (ix2 0 k)) fun k => w (ix2 k j))
    ∧ (∀ (w : Vec Ideal S1024x1536 .bf16) (j : Fin 1536), out11 x g w (ix2 i j) = proj (fun k => x (ix2 i k)) (fun k => g (ix2 0 k)) fun k => w (ix2 k j))
    ∧ (∀ (w : Vec Ideal S1024x256 .bf16) (j : Fin 256), out12 x g w (ix2 i j) = proj (fun k => x (ix2 i k)) (fun k => g (ix2 0 k)) fun k => w (ix2 k j))
    ∧ (∀ (w : Vec Ideal S1024x256 .bf16) (j : Fin 256), out13 x g w (ix2 i j) = proj (fun k => x (ix2 i k)) (fun k => g (ix2 0 k)) fun k => w (ix2 k j))
    ∧ (∀ (w : Vec Ideal S1024x512 .bf16) (j : Fin 512), out14 x g w (ix2 i j) = proj (fun k => x (ix2 i k)) (fun k => g (ix2 0 k)) fun k => w (ix2 k j))
    ∧ (∀ (w : Vec Ideal S1024x512 .bf16) (j : Fin 512), out15 x g w (ix2 i j) = proj (fun k => x (ix2 i k)) (fun k => g (ix2 0 k)) fun k => w (ix2 k j))
    ∧ (∀ (w : Vec Ideal S1024x1536 .bf16) (j : Fin 1536), out16 x g w (ix2 i j) = proj (fun k => x (ix2 i k)) (fun k => g (ix2 0 k)) fun k => w (ix2 k j))
    ∧ (∀ (w : Vec Ideal S1024x1536 .bf16) (j : Fin 1536), out17 x g w (ix2 i j) = proj (fun k => x (ix2 i k)) (fun k => g (ix2 0 k)) fun k => w (ix2 k j))
    ∧ (∀ (w : Vec Ideal S1024x1536 .bf16) (j : Fin 1536), out18 x g w (ix2 i j) = proj (fun k => x (ix2 i k)) (fun k => g (ix2 0 k)) fun k => w (ix2 k j))
    ∧ (∀ (w : Vec Ideal S1024x256 .bf16) (j : Fin 256), out19 x g w (ix2 i j) = proj (fun k => x (ix2 i k)) (fun k => g (ix2 0 k)) fun k => w (ix2 k j))
    ∧ (∀ (w : Vec Ideal S1024x256 .bf16) (j : Fin 256), out20 x g w (ix2 i j) = proj (fun k => x (ix2 i k)) (fun k => g (ix2 0 k)) fun k => w (ix2 k j))
    ∧ (∀ (w : Vec Ideal S1024x512 .bf16) (j : Fin 512), out21 x g w (ix2 i j) = proj (fun k => x (ix2 i k)) (fun k => g (ix2 0 k)) fun k => w (ix2 k j))
    ∧ (∀ (w : Vec Ideal S1024x512 .bf16) (j : Fin 512), out22 x g w (ix2 i j) = proj (fun k => x (ix2 i k)) (fun k => g (ix2 0 k)) fun k => w (ix2 k j)) := by
  refine ⟨?_, ?_, ?_, ?_, ?_, ?_, ?_, ?_, ?_, ?_, ?_, ?_, ?_, ?_⟩
  all_goals
    intro w j
    first | unfold out9 | unfold out10 | unfold out11 | unfold out12 | unfold out13 | unfold out14 | unfold out15 | unfold out16 | unfold out17 | unfold out18 | unfold out19 | unfold out20 | unfold out21 | unfold out22
    frame_out
    pointwise [k0_pay1, k0_pay2, k0_pay3, k0_pay4, k0_pay5, k0_pay6, k0_pay7, k0_pay8, k0_pay9, k0_pay10, k0_pay11, k0_pay12, k0_pay13, k0_pay14, k0_pay15, proj, normed]

end Cert.Even

end
-- ==== Proof.Even.Value.lean ====
/-
  The even layer's input projections: the kernel's arrays after the run are the normed rows times the weights' columns.
-/
module

public import proofs.«01_k».proof.Proof.Even.Blocks
public import Idealize.ShloMosaic.Lib.Pointwise
public import Idealize.ShloMosaic.Lib.Pipeline.ValueKit

@[expose] public section

set_option maxRecDepth 16384

noncomputable section

namespace Cert.Even

open Cert.Kernel4Ideal Cert.Kernel4Ideal.Gen Cert.Kernel4Ideal.Hand Idealize.ShloMosaic Idealize.ShloMosaic.TcCoe Idealize.SL.Sem

variable (m : (ℓ : Loc nD τ sig) → Buf (Elt Ideal) ℓ) (c : Dev nD)

variable (t : Fin cfg0.N)

/-- The same as an array: all the prompt's rows. -/
def promptArr (n o : ℕ) (h : o + n ≤ 6144) (xp : Vec Ideal S8x2048x1024 .f32) (g : Vec Ideal S1024 .f32) (w : Vec Ideal S1024x6144 .f32) :
    (⟨2, ![16384, n]⟩ : Shape).Idx → EReal := fun y => prompt n o h xp g w (y 0) (y 1)

/-- All the sample's rows. -/
def sampleArr (n o : ℕ) (h : o + n ≤ 6144) (xs : Vec Ideal S128x4x1024 .f32) (g : Vec Ideal S1024 .f32) (w : Vec Ideal S1024x6144 .f32) :
    (⟨2, ![512, n]⟩ : Shape).Idx → EReal := fun y => sample n o h xs g w (y 0) (y 1)

/-- What the prompt's windows are left with at a point is the prompt's projection, on any columns. -/
theorem prompt_at (n o : ℕ) (h : o + n ≤ 6144) (i : Fin 256) (j : Fin n) (O : EReal) (w : Fin 1024 → EReal)
    (hO : O = proj (fun k => (iblk m c 0 (hd t) : Vec Ideal S256x1024 .f32) (ix2 i k)) (fun k => (iblk m c 1 (hd t) : Vec Ideal S1x1024 .f32) (ix2 0 k)) w)
    (hw : ∀ k, w k = m ((c : Thread nD τ).loc main_arg3) (ix2 k ⟨o + j.val, by omega⟩)) :
    O = prompt n o h (m ((c : Thread nD τ).loc main_arg0)) (m ((c : Thread nD τ).loc main_arg2)) (m ((c : Thread nD τ).loc main_arg3)) (hdRow t i) j := by
  rw [hO, funext hw]
  unfold prompt
  refine (congrArg (fun x => proj x _ _) (funext fun k => (blk0 m c (hd t) i k).trans
    (rows_prompt _ _ _ k (by simp only [row_val, hd]; omega)))).trans ?_
  exact congrArg (fun g => proj _ g _) (funext fun k => blk1 m c (hd t) k)

/-- What the sample's windows are left with at a point is the sample's projection, on any columns. -/
theorem sample_at (n o : ℕ) (h : o + n ≤ 6144) (i : Fin 256) (j : Fin n) (O : EReal) (w : Fin 1024 → EReal)
    (hO : O = proj (fun k => (iblk m c 0 (tl t) : Vec Ideal S256x1024 .f32) (ix2 i k)) (fun k => (iblk m c 1 (tl t) : Vec Ideal S1x1024 .f32) (ix2 0 k)) w)
    (hw : ∀ k, w k = m ((c : Thread nD τ).loc main_arg3) (ix2 k ⟨o + j.val, by omega⟩)) :
    O = sample n o h (m ((c : Thread nD τ).loc main_arg1)) (m ((c : Thread nD τ).loc main_arg2)) (m ((c : Thread nD τ).loc main_arg3)) (tlRow t i) j := by
  have e : (row (tl t) i).val - 16384 = (tlRow t i).val := by simp only [row_val, tlRow_val, tl]; omega
  rw [hO, funext hw]
  unfold sample
  refine (congrArg (fun x => proj x _ _) (funext fun k => (blk0 m c (tl t) i k).trans
    (rows_sample _ _ _ k (by simp only [row_val, tl]; omega)))).trans ?_
  simp only [e]
  exact congrArg (fun g => proj _ g _) (funext fun k => blk1 m c (tl t) k)

set_option maxHeartbeats 1600000 in
/-- The prompt's arrays after the run. -/
theorem heads_eq : (dats m 0 c).arrAt 9 (cfgs 0).N = promptArr 1536 0 (by decide) (m ((c : Thread nD τ).loc main_arg0)) (m ((c : Thread nD τ).loc main_arg2)) (m ((c : Thread nD τ).loc main_arg3))
    ∧ (dats m 0 c).arrAt 10 (cfgs 0).N = promptArr 1536 1536 (by decide) (m ((c : Thread nD τ).loc main_arg0)) (m ((c : Thread nD τ).loc main_arg2)) (m ((c : Thread nD τ).loc main_arg3))
    ∧ (dats m 0 c).arrAt 11 (cfgs 0).N = promptArr 1536 3072 (by decide) (m ((c : Thread nD τ).loc main_arg0)) (m ((c : Thread nD τ).loc main_arg2)) (m ((c : Thread nD τ).loc main_arg3))
    ∧ (dats m 0 c).arrAt 12 (cfgs 0).N = promptArr 256 4608 (by decide) (m ((c : Thread nD τ).loc main_arg0)) (m ((c : Thread nD τ).loc main_arg2)) (m ((c : Thread nD τ).loc main_arg3))
    ∧ (dats m 0 c).arrAt 13 (cfgs 0).N = promptArr 256 4864 (by decide) (m ((c : Thread nD τ).loc main_arg0)) (m ((c : Thread nD τ).loc main_arg2)) (m ((c : Thread nD τ).loc main_arg3))
    ∧ (dats m 0 c).arrAt 14 (cfgs 0).N = promptArr 512 5120 (by decide) (m ((c : Thread nD τ).loc main_arg0)) (m ((c : Thread nD τ).loc main_arg2)) (m ((c : Thread nD τ).loc main_arg3))
    ∧ (dats m 0 c).arrAt 15 (cfgs 0).N = promptArr 512 5632 (by decide) (m ((c : Thread nD τ).loc main_arg0)) (m ((c : Thread nD τ).loc main_arg2)) (m ((c : Thread nD τ).loc main_arg3)) := by
  refine ⟨?_, ?_, ?_, ?_, ?_, ?_, ?_⟩
  · refine (dats m 0 c).arrAt_eq_of_covers 9 _ (by decide +kernel) fun t hf y => ?_
    blk_simp
    rw [after9]
    idx_vars y
    have h1 := prompt_at m c t 1536 0 (by decide) y0 y1 _ _
      ((out_at (iblk m c 0 (hd t)) (iblk m c 1 (hd t)) y0).1 (iblk m c 2 (hd t)) y1) fun k => (blkW m c (hd t)).1 k y1
    have h2 := congrArg (promptArr 1536 0 (by decide) (m ((c : Thread nD τ).loc main_arg0)) (m ((c : Thread nD τ).loc main_arg2)) (m ((c : Thread nD τ).loc main_arg3))) ((embHd t y0).1 y1).symm
    exact h1.trans h2
  · refine (dats m 0 c).arrAt_eq_of_covers 10 _ (by decide +kernel) fun t hf y => ?_
    blk_simp
    rw [after10]
    idx_vars y
    have h1 := prompt_at m c t 1536 1536 (by decide) y0 y1 _ _
      ((out_at (iblk m c 0 (hd t)) (iblk m c 1 (hd t)) y0).2.1 (iblk m c 3 (hd t)) y1) fun k => (blkW m c (hd t)).2.1 k y1
    have h2 := congrArg (promptArr 1536 1536 (by decide) (m ((c : Thread nD τ).loc main_arg0)) (m ((c : Thread nD τ).loc main_arg2)) (m ((c : Thread nD τ).loc main_arg3))) ((embHd t y0).2.1 y1).symm
    exact h1.trans h2
  · refine (dats m 0 c).arrAt_eq_of_covers 11 _ (by decide +kernel) fun t hf y => ?_
    blk_simp
    rw [after11]
    idx_vars y
    have h1 := prompt_at m c t 1536 3072 (by decide) y0 y1 _ _
      ((out_at (iblk m c 0 (hd t)) (iblk m c 1 (hd t)) y0).2.2.1 (iblk m c 4 (hd t)) y1) fun k => (blkW m c (hd t)).2.2.1 k y1
    have h2 := congrArg (promptArr 1536 3072 (by decide) (m ((c : Thread nD τ).loc main_arg0)) (m ((c : Thread nD τ).loc main_arg2)) (m ((c : Thread nD τ).loc main_arg3))) ((embHd t y0).2.2.1 y1).symm
    exact h1.trans h2
  · refine (dats m 0 c).arrAt_eq_of_covers 12 _ (by decide +kernel) fun t hf y => ?_
    blk_simp
    rw [after12]
    idx_vars y
    have h1 := prompt_at m c t 256 4608 (by decide) y0 y1 _ _
      ((out_at (iblk m c 0 (hd t)) (iblk m c 1 (hd t)) y0).2.2.2.1 (iblk m c 5 (hd t)) y1) fun k => (blkW m c (hd t)).2.2.2.1 k y1
    have h2 := congrArg (promptArr 256 4608 (by decide) (m ((c : Thread nD τ).loc main_arg0)) (m ((c : Thread nD τ).loc main_arg2)) (m ((c : Thread nD τ).loc main_arg3))) ((embHd t y0).2.2.2.1 y1).symm
    exact h1.trans h2
  · refine (dats m 0 c).arrAt_eq_of_covers 13 _ (by decide +kernel) fun t hf y => ?_
    blk_simp
    rw [after13]
    idx_vars y
    have h1 := prompt_at m c t 256 4864 (by decide) y0 y1 _ _
      ((out_at (iblk m c 0 (hd t)) (iblk m c 1 (hd t)) y0).2.2.2.2.1 (iblk m c 6 (hd t)) y1) fun k => (blkW m c (hd t)).2.2.2.2.1 k y1
    have h2 := congrArg (promptArr 256 4864 (by decide) (m ((c : Thread nD τ).loc main_arg0)) (m ((c : Thread nD τ).loc main_arg2)) (m ((c : Thread nD τ).loc main_arg3))) ((embHd t y0).2.2.2.2.1 y1).symm
    exact h1.trans h2
  · refine (dats m 0 c).arrAt_eq_of_covers 14 _ (by decide +kernel) fun t hf y => ?_
    blk_simp
    rw [after14]
    idx_vars y
    have h1 := prompt_at m c t 512 5120 (by decide) y0 y1 _ _
      ((out_at (iblk m c 0 (hd t)) (iblk m c 1 (hd t)) y0).2.2.2.2.2.1 (iblk m c 7 (hd t)) y1) fun k => (blkW m c (hd t)).2.2.2.2.2.1 k y1
    have h2 := congrArg (promptArr 512 5120 (by decide) (m ((c : Thread nD τ).loc main_arg0)) (m ((c : Thread nD τ).loc main_arg2)) (m ((c : Thread nD τ).loc main_arg3))) ((embHd t y0).2.2.2.2.2.1 y1).symm
    exact h1.trans h2
  · refine (dats m 0 c).arrAt_eq_of_covers 15 _ (by decide +kernel) fun t hf y => ?_
    blk_simp
    rw [after15]
    idx_vars y
    have h1 := prompt_at m c t 512 5632 (by decide) y0 y1 _ _
      ((out_at (iblk m c 0 (hd t)) (iblk m c 1 (hd t)) y0).2.2.2.2.2.2.1 (iblk m c 8 (hd t)) y1) fun k => (blkW m c (hd t)).2.2.2.2.2.2 k y1
    have h2 := congrArg (promptArr 512 5632 (by decide) (m ((c : Thread nD τ).loc main_arg0)) (m ((c : Thread nD τ).loc main_arg2)) (m ((c : Thread nD τ).loc main_arg3))) ((embHd t y0).2.2.2.2.2.2 y1).symm
    exact h1.trans h2

set_option maxHeartbeats 1600000 in
/-- The sample's arrays after the run. -/
theorem tails_eq : (dats m 0 c).arrAt 16 (cfgs 0).N = sampleArr 1536 0 (by decide) (m ((c : Thread nD τ).loc main_arg1)) (m ((c : Thread nD τ).loc main_arg2)) (m ((c : Thread nD τ).loc main_arg3))
    ∧ (dats m 0 c).arrAt 17 (cfgs 0).N = sampleArr 1536 1536 (by decide) (m ((c : Thread nD τ).loc main_arg1)) (m ((c : Thread nD τ).loc main_arg2)) (m ((c : Thread nD τ).loc main_arg3))
    ∧ (dats m 0 c).arrAt 18 (cfgs 0).N = sampleArr 1536 3072 (by decide) (m ((c : Thread nD τ).loc main_arg1)) (m ((c : Thread nD τ).loc main_arg2)) (m ((c : Thread nD τ).loc main_arg3))
    ∧ (dats m 0 c).arrAt 19 (cfgs 0).N = sampleArr 256 4608 (by decide) (m ((c : Thread nD τ).loc main_arg1)) (m ((c : Thread nD τ).loc main_arg2)) (m ((c : Thread nD τ).loc main_arg3))
    ∧ (dats m 0 c).arrAt 20 (cfgs 0).N = sampleArr 256 4864 (by decide) (m ((c : Thread nD τ).loc main_arg1)) (m ((c : Thread nD τ).loc main_arg2)) (m ((c : Thread nD τ).loc main_arg3))
    ∧ (dats m 0 c).arrAt 21 (cfgs 0).N = sampleArr 512 5120 (by decide) (m ((c : Thread nD τ).loc main_arg1)) (m ((c : Thread nD τ).loc main_arg2)) (m ((c : Thread nD τ).loc main_arg3))
    ∧ (dats m 0 c).arrAt 22 (cfgs 0).N = sampleArr 512 5632 (by decide) (m ((c : Thread nD τ).loc main_arg1)) (m ((c : Thread nD τ).loc main_arg2)) (m ((c : Thread nD τ).loc main_arg3)) := by
  refine ⟨?_, ?_, ?_, ?_, ?_, ?_, ?_⟩
  · refine (dats m 0 c).arrAt_eq_of_covers 16 _ (by decide +kernel) fun t hf y => ?_
    blk_simp
    rw [after16]
    idx_vars y
    have h1 := sample_at m c t 1536 0 (by decide) y0 y1 _ _
      ((out_at (iblk m c 0 (tl t)) (iblk m c 1 (tl t)) y0).2.2.2.2.2.2.2.1 (iblk m c 2 (tl t)) y1) fun k => (blkW m c (tl t)).1 k y1
    have h2 := congrArg (sampleArr 1536 0 (by decide) (m ((c : Thread nD τ).loc main_arg1)) (m ((c : Thread nD τ).loc main_arg2)) (m ((c : Thread nD τ).loc main_arg3))) ((embTl t y0).1 y1).symm
    exact h1.trans h2
  · refine (dats m 0 c).arrAt_eq_of_covers 17 _ (by decide +kernel) fun t hf y => ?_
    blk_simp
    rw [after17]
    idx_vars y
    have h1 := sample_at m c t 1536 1536 (by decide) y0 y1 _ _
      ((out_at (iblk m c 0 (tl t)) (iblk m c 1 (tl t)) y0).2.2.2.2.2.2.2.2.1 (iblk m c 3 (tl t)) y1) fun k => (blkW m c (tl t)).2.1 k y1
    have h2 := congrArg (sampleArr 1536 1536 (by decide) (m ((c : Thread nD τ).loc main_arg1)) (m ((c : Thread nD τ).loc main_arg2)) (m ((c : Thread nD τ).loc main_arg3))) ((embTl t y0).2.1 y1).symm
    exact h1.trans h2
  · refine (dats m 0 c).arrAt_eq_of_covers 18 _ (by decide +kernel) fun t hf y => ?_
    blk_simp
    rw [after18]
    idx_vars y
    have h1 := sample_at m c t 1536 3072 (by decide) y0 y1 _ _
      ((out_at (iblk m c 0 (tl t)) (iblk m c 1 (tl t)) y0).2.2.2.2.2.2.2.2.2.1 (iblk m c 4 (tl t)) y1) fun k => (blkW m c (tl t)).2.2.1 k y1
    have h2 := congrArg (sampleArr 1536 3072 (by decide) (m ((c : Thread nD τ).loc main_arg1)) (m ((c : Thread nD τ).loc main_arg2)) (m ((c : Thread nD τ).loc main_arg3))) ((embTl t y0).2.2.1 y1).symm
    exact h1.trans h2
  · refine (dats m 0 c).arrAt_eq_of_covers 19 _ (by decide +kernel) fun t hf y => ?_
    blk_simp
    rw [after19]
    idx_vars y
    have h1 := sample_at m c t 256 4608 (by decide) y0 y1 _ _
      ((out_at (iblk m c 0 (tl t)) (iblk m c 1 (tl t)) y0).2.2.2.2.2.2.2.2.2.2.1 (iblk m c 5 (tl t)) y1) fun k => (blkW m c (tl t)).2.2.2.1 k y1
    have h2 := congrArg (sampleArr 256 4608 (by decide) (m ((c : Thread nD τ).loc main_arg1)) (m ((c : Thread nD τ).loc main_arg2)) (m ((c : Thread nD τ).loc main_arg3))) ((embTl t y0).2.2.2.1 y1).symm
    exact h1.trans h2
  · refine (dats m 0 c).arrAt_eq_of_covers 20 _ (by decide +kernel) fun t hf y => ?_
    blk_simp
    rw [after20]
    idx_vars y
    have h1 := sample_at m c t 256 4864 (by decide) y0 y1 _ _
      ((out_at (iblk m c 0 (tl t)) (iblk m c 1 (tl t)) y0).2.2.2.2.2.2.2.2.2.2.2.1 (iblk m c 6 (tl t)) y1) fun k => (blkW m c (tl t)).2.2.2.2.1 k y1
    have h2 := congrArg (sampleArr 256 4864 (by decide) (m ((c : Thread nD τ).loc main_arg1)) (m ((c : Thread nD τ).loc main_arg2)) (m ((c : Thread nD τ).loc main_arg3))) ((embTl t y0).2.2.2.2.1 y1).symm
    exact h1.trans h2
  · refine (dats m 0 c).arrAt_eq_of_covers 21 _ (by decide +kernel) fun t hf y => ?_
    blk_simp
    rw [after21]
    idx_vars y
    have h1 := sample_at m c t 512 5120 (by decide) y0 y1 _ _
      ((out_at (iblk m c 0 (tl t)) (iblk m c 1 (tl t)) y0).2.2.2.2.2.2.2.2.2.2.2.2.1 (iblk m c 7 (tl t)) y1) fun k => (blkW m c (tl t)).2.2.2.2.2.1 k y1
    have h2 := congrArg (sampleArr 512 5120 (by decide) (m ((c : Thread nD τ).loc main_arg1)) (m ((c : Thread nD τ).loc main_arg2)) (m ((c : Thread nD τ).loc main_arg3))) ((embTl t y0).2.2.2.2.2.1 y1).symm
    exact h1.trans h2
  · refine (dats m 0 c).arrAt_eq_of_covers 22 _ (by decide +kernel) fun t hf y => ?_
    blk_simp
    rw [after22]
    idx_vars y
    have h1 := sample_at m c t 512 5632 (by decide) y0 y1 _ _
      ((out_at (iblk m c 0 (tl t)) (iblk m c 1 (tl t)) y0).2.2.2.2.2.2.2.2.2.2.2.2.2 (iblk m c 8 (tl t)) y1) fun k => (blkW m c (tl t)).2.2.2.2.2.2 k y1
    have h2 := congrArg (sampleArr 512 5632 (by decide) (m ((c : Thread nD τ).loc main_arg1)) (m ((c : Thread nD τ).loc main_arg2)) (m ((c : Thread nD τ).loc main_arg3))) ((embTl t y0).2.2.2.2.2.2 y1).symm
    exact h1.trans h2

end Cert.Even

end
-- ==== Proof.Even.Claim.lean ====
/-
  The even layer's input projections: kernel and reference end with equal arrays, and the reference's frame.
-/
module

public import Idealize.ShloMosaic.Lib.Quiescent
public import proofs.«01_k».proof.Defs
public import proofs.«01_k».proof.Proof.Even.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Even

open Cert.Kernel4Ideal Cert.Kernel4Ideal.Gen Cert.Kernel4Ideal.Hand Idealize.ShloMosaic Idealize.ShloMosaic.TcCoe Idealize.SL.Sem

variable (m : (ℓ : Loc nD τ sig) → Buf (Elt Ideal) ℓ) (c : Dev nD)

/-- The kernel's arguments after the run are as before. -/
theorem kept (r : PUnit × MemSt nD τ sig (Elt Ideal)) (h : Pipeline.FramePost cfgs (dats m) 0 (V m) r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).2 main_arg0 (by decide +kernel)).trans (V_main_arg0 m c), ((h c).2 main_arg1 (by decide +kernel)).trans (V_main_arg1 m c), ((h c).2 main_arg2 (by decide +kernel)).trans (V_main_arg2 m c), ((h c).2 main_arg3 (by decide +kernel)).trans (V_main_arg3 m c)⟩

set_option maxHeartbeats 8000000 in
/-- Kernel and reference end with equal arrays. -/
theorem algebraic : Cert.algebraic_Kernel4Ideal_Reference4Ideal := by
  intro m g m' g' _ hag
  refine ⟨fun c => promptArr 1536 0 (by decide) (m ((c : Thread nD τ).loc main_arg0)) (m ((c : Thread nD τ).loc main_arg2)) (m ((c : Thread nD τ).loc main_arg3)), fun c => sampleArr 1536 0 (by decide) (m ((c : Thread nD τ).loc main_arg1)) (m ((c : Thread nD τ).loc main_arg2)) (m ((c : Thread nD τ).loc main_arg3)), fun c => promptArr 1536 1536 (by decide) (m ((c : Thread nD τ).loc main_arg0)) (m ((c : Thread nD τ).loc main_arg2)) (m ((c : Thread nD τ).loc main_arg3)), fun c => sampleArr 1536 1536 (by decide) (m ((c : Thread nD τ).loc main_arg1)) (m ((c : Thread nD τ).loc main_arg2)) (m ((c : Thread nD τ).loc main_arg3)), fun c => promptArr 1536 3072 (by decide) (m ((c : Thread nD τ).loc main_arg0)) (m ((c : Thread nD τ).loc main_arg2)) (m ((c : Thread nD τ).loc main_arg3)), fun c => sampleArr 1536 3072 (by decide) (m ((c : Thread nD τ).loc main_arg1)) (m ((c : Thread nD τ).loc main_arg2)) (m ((c : Thread nD τ).loc main_arg3)), fun c => promptArr 256 4608 (by decide) (m ((c : Thread nD τ).loc main_arg0)) (m ((c : Thread nD τ).loc main_arg2)) (m ((c : Thread nD τ).loc main_arg3)), fun c => sampleArr 256 4608 (by decide) (m ((c : Thread nD τ).loc main_arg1)) (m ((c : Thread nD τ).loc main_arg2)) (m ((c : Thread nD τ).loc main_arg3)), fun c => promptArr 256 4864 (by decide) (m ((c : Thread nD τ).loc main_arg0)) (m ((c : Thread nD τ).loc main_arg2)) (m ((c : Thread nD τ).loc main_arg3)), fun c => sampleArr 256 4864 (by decide) (m ((c : Thread nD τ).loc main_arg1)) (m ((c : Thread nD τ).loc main_arg2)) (m ((c : Thread nD τ).loc main_arg3)), fun c => promptArr 512 5120 (by decide) (m ((c : Thread nD τ).loc main_arg0)) (m ((c : Thread nD τ).loc main_arg2)) (m ((c : Thread nD τ).loc main_arg3)), fun c => sampleArr 512 5120 (by decide) (m ((c : Thread nD τ).loc main_arg1)) (m ((c : Thread nD τ).loc main_arg2)) (m ((c : Thread nD τ).loc main_arg3)), fun c => promptArr 512 5632 (by decide) (m ((c : Thread nD τ).loc main_arg0)) (m ((c : Thread nD τ).loc main_arg2)) (m ((c : Thread nD τ).loc main_arg3)), fun c => sampleArr 512 5632 (by decide) (m ((c : Thread nD τ).loc main_arg1)) (m ((c : Thread nD τ).loc main_arg2)) (m ((c : Thread nD τ).loc main_arg3)), ?_, ?_⟩
  · refine (θ_run Cert.Kernel4Ideal.defs _ _).mono (fun r h c => ?_) (Cert.Kernel4Ideal.Hand.run_main (F := Ideal) m g)
    obtain ⟨a0, a1, a2, a3, a4, a5, a6⟩ := heads_eq m c
    obtain ⟨b0, b1, b2, b3, b4, b5, b6⟩ := tails_eq m c
    exact ⟨((h c).1 9).trans a0, ((h c).1 16).trans b0, ((h c).1 10).trans a1, ((h c).1 17).trans b1, ((h c).1 11).trans a2, ((h c).1 18).trans b2, ((h c).1 12).trans a3, ((h c).1 19).trans b3, ((h c).1 13).trans a4, ((h c).1 20).trans b4, ((h c).1 14).trans a5, ((h c).1 21).trans b5, ((h c).1 15).trans a6, ((h c).1 22).trans b6, kept m c r h⟩
  · refine (θ_run Cert.Reference4Ideal.defs _ _).mono (fun r h c => ?_) (Cert.Reference4Ideal.Value.run (F := Ideal) m' g')
    obtain ⟨e0, e1, e2, e3⟩ := hag c
    obtain ⟨r0, r1, r2, r3, r4, r5, r6, r7, r8, r9, r10, r11, r12, r13, hk⟩ := h c
    refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, hk⟩
    all_goals
      first | rw [e0, e2, e3] | rw [e1, e2, e3]
      funext y
      idx_vars y
      pointwise [promptArr, sampleArr, prompt, sample, proj, normed]

/-- The reference runs to its end, leaves its arguments and no semaphore up. -/
theorem frame_ref : Cert.quiescent_Reference4Ideal := fun m ρ _ =>
  (θ_run Cert.Reference4Ideal.defs _ _).mono (fun r h => ⟨fun c => (h c).2.2.2.2.2.2.2.2.2.2.2.2.2.2, sem_eq_zero_of_no_sems (by decide) r.2⟩)
    (Cert.Reference4Ideal.Value.run m ρ)

end Cert.Even

end
-- ==== Proof.Odd.BodyIdeal.lean ====
/-
  The odd layer's input projections: the body at every point of the grid, the run and the frame.
  The first points' stores go to the windows of the prompt's rows, the last two's to those of the sample's rows; a window
  is left as it was found at the other points, and the last prompt block is written back at the last point of all.
-/
module

public import proofs.«01_k».proof.Proof.Gen.Kernel5Ideal.Skeleton
public import proofs.«01_k».proof.Proof.Gen.Kernel5Ideal.Frame
public import Idealize.ShloMosaic.Lib.Pipeline.Frame
public import Idealize.ShloMosaic.Lib.Pipeline.FrameSuffix
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources a run owns. -/
abbrev Res (F : FTy → Type) := MT nD τ sig Unit (Elt F) ℕ (UR sig nD τ) ℕ

variable (m : (ℓ : Loc nD τ sig) → Buf (Elt F) ℓ) (ρ : Dev nD → PrngReg)

/-! ## What the body stores -/

/-- The whole of a 1024x1024 block. -/
abbrev rS1024x1024 : Rect S1024x1024 := Rect.unit (s := S1024x1024) ![0, 0] S1024x1024.size inb_S1024x1024_S1024x1024_0_0
/-- The whole of a 1024x128 block. -/
abbrev rS1024x128 : Rect S1024x128 := Rect.unit (s := S1024x128) ![0, 0] S1024x128.size inb_S1024x128_S1024x128_0_0
/-- The whole of a 1024x1536 block. -/
abbrev rS1024x1536 : Rect S1024x1536 := Rect.unit (s := S1024x1536) ![0, 0] S1024x1536.size inb_S1024x1536_S1024x1536_0_0
/-- The whole of a 1024x512 block. -/
abbrev rS1024x512 : Rect S1024x512 := Rect.unit (s := S1024x512) ![0, 0] S1024x512.size inb_S1024x512_S1024x512_0_0
/-- The whole of a 1x1024 block. -/
abbrev rS1x1024 : Rect S1x1024 := Rect.unit (s := S1x1024) ![0, 0] S1x1024.size inb_S1x1024_S1x1024_0_0
/-- The whole of a 256x1024 block. -/
abbrev rS256x1024 : Rect S256x1024 := Rect.unit (s := S256x1024) ![0, 0] S256x1024.size inb_S256x1024_S256x1024_0_0
/-- The whole of a 256x128 block. -/
abbrev rS256x128 : Rect S256x128 := Rect.unit (s := S256x128) ![0, 0] S256x128.size inb_S256x128_S256x128_0_0
/-- The whole of a 256x1536 block. -/
abbrev rS256x1536 : Rect S256x1536 := Rect.unit (s := S256x1536) ![0, 0] S256x1536.size inb_S256x1536_S256x1536_0_0
/-- The whole of a 256x512 block. -/
abbrev rS256x512 : Rect S256x512 := Rect.unit (s := S256x512) ![0, 0] S256x512.size inb_S256x512_S256x512_0_0

/-- One store of the whole block covers it. -/
theorem coverS256x1024 (p0 : Vec F S256x1024 .f32) (y : S256x1024.Idx) : ∃ pc ∈ ([⟨rS256x1024, p0⟩] : List (View.Piece (Elt F) S256x1024 .f32)), y ∈ pc.1.set :=
  View.cover_of_tiled [⟨rS256x1024, p0⟩] S256x1024.size (by rfl) y

/-- One store of the whole block covers it. -/
theorem coverS256x128 (p0 : Vec F S256x128 .f32) (y : S256x128.Idx) : ∃ pc ∈ ([⟨rS256x128, p0⟩] : List (View.Piece (Elt F) S256x128 .f32)), y ∈ pc.1.set :=
  View.cover_of_tiled [⟨rS256x128, p0⟩] S256x128.size (by rfl) y

/-- One store of the whole block covers it. -/
theorem coverS256x1536 (p0 : Vec F S256x1536 .f32) (y : S256x1536.Idx) : ∃ pc ∈ ([⟨rS256x1536, p0⟩] : List (View.Piece (Elt F) S256x1536 .f32)), y ∈ pc.1.set :=
  View.cover_of_tiled [⟨rS256x1536, p0⟩] S256x1536.size (by rfl) y

/-- One store of the whole block covers it. -/
theorem coverS256x512 (p0 : Vec F S256x512 .f32) (y : S256x512.Idx) : ∃ pc ∈ ([⟨rS256x512, p0⟩] : List (View.Piece (Elt F) S256x512 .f32)), y ∈ pc.1.set :=
  View.cover_of_tiled [⟨rS256x512, p0⟩] S256x512.size (by rfl) y

/-- What a storing point leaves in window 8's block. -/
def out8 (x0 : Vec F S256x1024 .f32) (x1 : Vec F S1x1024 .f32) (x2 : Vec F S1024x1024 .bf16) : Vec F S256x1024 .f32 :=
  View.canon [⟨rS256x1024, k0_pay2 (k0_pay1 (View.ld x0 rS256x1024) (View.ld x1 rS1x1024)) (View.ld x2 rS1024x1024)⟩]
/-- What a storing point leaves in window 9's block. -/
def out9 (x0 : Vec F S256x1024 .f32) (x1 : Vec F S1x1024 .f32) (x2 : Vec F S1024x1536 .bf16) : Vec F S256x1536 .f32 :=
  View.canon [⟨rS256x1536, k0_pay3 (k0_pay1 (View.ld x0 rS256x1024) (View.ld x1 rS1x1024)) (View.ld x2 rS1024x1536)⟩]
/-- What a storing point leaves in window 10's block. -/
def out10 (x0 : Vec F S256x1024 .f32) (x1 : Vec F S1x1024 .f32) (x2 : Vec F S1024x128 .bf16) : Vec F S256x128 .f32 :=
  View.canon [⟨rS256x128, k0_pay4 (k0_pay1 (View.ld x0 rS256x1024) (View.ld x1 rS1x1024)) (View.ld x2 rS1024x128)⟩]
/-- What a storing point leaves in window 11's block. -/
def out11 (x0 : Vec F S256x1024 .f32) (x1 : Vec F S1x1024 .f32) (x2 : Vec F S1024x512 .bf16) : Vec F S256x512 .f32 :=
  View.canon [⟨rS256x512, k0_pay5 (k0_pay1 (View.ld x0 rS256x1024) (View.ld x1 rS1x1024)) (View.ld x2 rS1024x512)⟩]
/-- What a storing point leaves in window 12's block. -/
def out12 (x0 : Vec F S256x1024 .f32) (x1 : Vec F S1x1024 .f32) (x2 : Vec F S1024x512 .bf16) : Vec F S256x512 .f32 :=
  View.canon [⟨rS256x512, k0_pay6 (k0_pay1 (View.ld x0 rS256x1024) (View.ld x1 rS1x1024)) (View.ld x2 rS1024x512)⟩]
/-- What a storing point leaves in window 13's block. -/
def out13 (x0 : Vec F S256x1024 .f32) (x1 : Vec F S1x1024 .f32) (x2 : Vec F S1024x512 .bf16) : Vec F S256x512 .f32 :=
  View.canon [⟨rS256x512, k0_pay7 (k0_pay1 (View.ld x0 rS256x1024) (View.ld x1 rS1x1024)) (View.ld x2 rS1024x512)⟩]
/-- What a storing point leaves in window 14's block. -/
def out14 (x0 : Vec F S256x1024 .f32) (x1 : Vec F S1x1024 .f32) (x2 : Vec F S1024x1024 .bf16) : Vec F S256x1024 .f32 :=
  View.canon [⟨rS256x1024, k0_pay8 (k0_pay1 (View.ld x0 rS256x1024) (View.ld x1 rS1x1024)) (View.ld x2 rS1024x1024)⟩]
/-- What a storing point leaves in window 15's block. -/
def out15 (x0 : Vec F S256x1024 .f32) (x1 : Vec F S1x1024 .f32) (x2 : Vec F S1024x1536 .bf16) : Vec F S256x1536 .f32 :=
  View.canon [⟨rS256x1536, k0_pay9 (k0_pay1 (View.ld x0 rS256x1024) (View.ld x1 rS1x1024)) (View.ld x2 rS1024x1536)⟩]
/-- What a storing point leaves in window 16's block. -/
def out16 (x0 : Vec F S256x1024 .f32) (x1 : Vec F S1x1024 .f32) (x2 : Vec F S1024x128 .bf16) : Vec F S256x128 .f32 :=
  View.canon [⟨rS256x128, k0_pay10 (k0_pay1 (View.ld x0 rS256x1024) (View.ld x1 rS1x1024)) (View.ld x2 rS1024x128)⟩]
/-- What a storing point leaves in window 17's block. -/
def out17 (x0 : Vec F S256x1024 .f32) (x1 : Vec F S1x1024 .f32) (x2 : Vec F S1024x512 .bf16) : Vec F S256x512 .f32 :=
  View.canon [⟨rS256x512, k0_pay11 (k0_pay1 (View.ld x0 rS256x1024) (View.ld x1 rS1x1024)) (View.ld x2 rS1024x512)⟩]
/-- What a storing point leaves in window 18's block. -/
def out18 (x0 : Vec F S256x1024 .f32) (x1 : Vec F S1x1024 .f32) (x2 : Vec F S1024x512 .bf16) : Vec F S256x512 .f32 :=
  View.canon [⟨rS256x512, k0_pay12 (k0_pay1 (View.ld x0 rS256x1024) (View.ld x1 rS1x1024)) (View.ld x2 rS1024x512)⟩]
/-- What a storing point leaves in window 19's block. -/
def out19 (x0 : Vec F S256x1024 .f32) (x1 : Vec F S1x1024 .f32) (x2 : Vec F S1024x512 .bf16) : Vec F S256x512 .f32 :=
  View.canon [⟨rS256x512, k0_pay13 (k0_pay1 (View.ld x0 rS256x1024) (View.ld x1 rS1x1024)) (View.ld x2 rS1024x512)⟩]

set_option maxHeartbeats 4000000 in
/-- The body at one of the prompt's points: the inputs stay, the prompt's windows end at the products. -/
theorem run_head (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S256x1024 .f32) (harg9 : arg9.IsWhole) (arg10 : Memref sig .tc .vmem S256x1536 .f32) (harg10 : arg10.IsWhole) (arg11 : Memref sig .tc .vmem S256x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x1024 .f32) (harg15 : arg15.IsWhole) (arg16 : Memref sig .tc .vmem S256x1536 .f32) (harg16 : arg16.IsWhole) (arg17 : Memref sig .tc .vmem S256x128 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S256x512 .f32) (harg20 : arg20.IsWhole) (hc0 : k0_cond1 i = 1#1) (hc1 : ¬k0_cond2 i = 1#1)
    (x0 : Vec F S256x1024 .f32) (x1 : Vec F S1x1024 .f32) (x2 : Vec F S1024x1024 .bf16) (x3 : Vec F S1024x1536 .bf16) (x4 : Vec F S1024x128 .bf16) (x5 : Vec F S1024x512 .bf16) (x6 : Vec F S1024x512 .bf16) (x7 : Vec F S1024x512 .bf16) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2) ∗ owns (c : Thread nD τ) arg10 fullShare (out9 x0 x1 x3) ∗ owns (c : Thread nD τ) arg11 fullShare (out10 x0 x1 x4) ∗ owns (c : Thread nD τ) arg12 fullShare (out11 x0 x1 x5) ∗ owns (c : Thread nD τ) arg13 fullShare (out12 x0 x1 x6) ∗ owns (c : Thread nD τ) arg14 fullShare (out13 x0 x1 x7)) -∗ K ⟨⟩))
      ⊢ wp frame (wpE (defs₀ (F := F)) Variants.none c none) E (cc0_norm_matmul i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_norm_matmul_eq_skeleton]; unfold cc0_norm_matmul_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverS256x1024 _)
  isplitl [H9]
  · iexists _; isplitr
    swap; · iexact H9
    ipureintro
    exact View.read_writes_eq_canon _ _ _ (coverS256x1536 _)
  isplitl [H10]
  · iexists _; isplitr
    swap; · iexact H10
    ipureintro
    exact View.read_writes_eq_canon _ _ _ (coverS256x128 _)
  isplitl [H11]
  · iexists _; isplitr
    swap; · iexact H11
    ipureintro
    exact View.read_writes_eq_canon _ _ _ (coverS256x512 _)
  isplitl [H12]
  · iexists _; isplitr
    swap; · iexact H12
    ipureintro
    exact View.read_writes_eq_canon _ _ _ (coverS256x512 _)
  iexists _; isplitr
  swap; · iexact H13
  ipureintro
  exact View.read_writes_eq_canon _ _ _ (coverS256x512 _)

set_option maxHeartbeats 4000000 in
/-- The body at one of the sample's points: the inputs stay, the sample's windows end at the products. -/
theorem run_tail (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x1536 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S256x1024 .f32) (harg9 : arg9.IsWhole) (arg10 : Memref sig .tc .vmem S256x1536 .f32) (harg10 : arg10.IsWhole) (arg11 : Memref sig .tc .vmem S256x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x1024 .f32) (harg15 : arg15.IsWhole) (arg16 : Memref sig .tc .vmem S256x1536 .f32) (harg16 : arg16.IsWhole) (arg17 : Memref sig .tc .vmem S256x128 .f32) (harg17 : arg17.IsWhole) (arg18 : Memref sig .tc .vmem S256x512 .f32) (harg18 : arg18.IsWhole) (arg19 : Memref sig .tc .vmem S256x512 .f32) (harg19 : arg19.IsWhole) (arg20 : Memref sig .tc .vmem S256x512 .f32) (harg20 : arg20.IsWhole) (hc0 : ¬k0_cond1 i = 1#1) (hc1 : k0_cond2 i = 1#1)
    (x0 : Vec F S256x1024 .f32) (x1 : Vec F S1x1024 .f32) (x2 : Vec F S1024x1024 .bf16) (x3 : Vec F S1024x1536 .bf16) (x4 : Vec F S1024x128 .bf16) (x5 : Vec F S1024x512 .bf16) (x6 : Vec F S1024x512 .bf16) (x7 : Vec F S1024x512 .bf16) (K : PUnit → sProp (Res F)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg15 fullShare (out14 x0 x1 x2) ∗ owns (c : Thread nD τ) arg16 fullShare (out15 x0 x1 x3) ∗ owns (c : Thread nD τ) arg17 fullShare (out16 x0 x1 x4) ∗ owns (c : Thread nD τ) arg18 fullShare (out17 x0 x1 x5) ∗ owns (c : Thread nD τ) arg19 fullShare (out18 x0 x1 x6) ∗ owns (c : Thread nD τ) arg20 fullShare (out19 x0 x1 x7)) -∗ K ⟨⟩))
      ⊢ wp frame (wpE (defs₀ (F := F)) Variants.none c none) E (cc0_norm_matmul i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_norm_matmul_eq_skeleton]; unfold cc0_norm_matmul_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H14]
  · iexists _; isplitr
    swap; · iexact H14
    ipureintro
    exact View.read_writes_eq_canon _ _ _ (coverS256x1024 _)
  isplitl [H15]
  · iexists _; isplitr
    swap; · iexact H15
    ipureintro
    exact View.read_writes_eq_canon _ _ _ (coverS256x1536 _)
  isplitl [H16]
  · iexists _; isplitr
    swap; · iexact H16
    ipureintro
    exact View.read_writes_eq_canon _ _ _ (coverS256x128 _)
  isplitl [H17]
  · iexists _; isplitr
    swap; · iexact H17
    ipureintro
    exact View.read_writes_eq_canon _ _ _ (coverS256x512 _)
  isplitl [H18]
  · iexists _; isplitr
    swap; · iexact H18
    ipureintro
    exact View.read_writes_eq_canon _ _ _ (coverS256x512 _)
  iexists _; isplitr
  swap; · iexact H19
  ipureintro
  exact View.read_writes_eq_canon _ _ _ (coverS256x512 _)

/-! ## The points -/

/-- The last prompt point at or before `t`. -/
def hd (t : Fin cfg0.N) : Fin cfg0.N := ⟨min t.val 63, lt_of_le_of_lt (min_le_left _ _) t.isLt⟩
/-- The first sample point at or after `t`. -/
def tl (t : Fin cfg0.N) : Fin cfg0.N := ⟨max t.val 64, max_lt t.isLt (by rw [show cfg0.N = 66 from N_0]; decide)⟩

theorem hd_of_lt (t : Fin cfg0.N) (h : t.val < 64) : hd t = t := Fin.ext (min_eq_left (Nat.le_of_lt_succ h))
theorem tl_of_ge (t : Fin cfg0.N) (h : ¬t.val < 64) : tl t = t := Fin.ext (max_eq_left (Nat.not_lt.mp h))

/-- The first condition holds at the prompt's points, -/
theorem cond1_iff : ∀ t : Fin cfg0.N, k0_cond1 (grid0.coords t) = 1#1 ↔ t.val < 64 :=
  (by decide +kernel : ∀ t : Fin grid0.N, k0_cond1 (grid0.coords t) = 1#1 ↔ t.val < 64)
/-- the second at the sample's. -/
theorem cond2_iff : ∀ t : Fin cfg0.N, k0_cond2 (grid0.coords t) = 1#1 ↔ ¬t.val < 64 :=
  (by decide +kernel : ∀ t : Fin grid0.N, k0_cond2 (grid0.coords t) = 1#1 ↔ ¬t.val < 64)

/-- The proof data: the arrays as the region finds them; each input's buffer at its block; a prompt window's at the
    products of the last prompt point so far, a sample window's at those of the first sample point to come. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 (hd t)) (iblk m c 1 (hd t)) (iblk m c 2 (hd t))
    | ⟨9, _⟩ => out9 (iblk m c 0 (hd t)) (iblk m c 1 (hd t)) (iblk m c 3 (hd t))
    | ⟨10, _⟩ => out10 (iblk m c 0 (hd t)) (iblk m c 1 (hd t)) (iblk m c 4 (hd t))
    | ⟨11, _⟩ => out11 (iblk m c 0 (hd t)) (iblk m c 1 (hd t)) (iblk m c 5 (hd t))
    | ⟨12, _⟩ => out12 (iblk m c 0 (hd t)) (iblk m c 1 (hd t)) (iblk m c 6 (hd t))
    | ⟨13, _⟩ => out13 (iblk m c 0 (hd t)) (iblk m c 1 (hd t)) (iblk m c 7 (hd t))
    | ⟨14, _⟩ => out14 (iblk m c 0 (tl t)) (iblk m c 1 (tl t)) (iblk m c 2 (tl t))
    | ⟨15, _⟩ => out15 (iblk m c 0 (tl t)) (iblk m c 1 (tl t)) (iblk m c 3 (tl t))
    | ⟨16, _⟩ => out16 (iblk m c 0 (tl t)) (iblk m c 1 (tl t)) (iblk m c 4 (tl t))
    | ⟨17, _⟩ => out17 (iblk m c 0 (tl t)) (iblk m c 1 (tl t)) (iblk m c 5 (tl t))
    | ⟨18, _⟩ => out18 (iblk m c 0 (tl t)) (iblk m c 1 (tl t)) (iblk m c 6 (tl t))
    | ⟨19, _⟩ => out19 (iblk m c 0 (tl t)) (iblk m c 1 (tl t)) (iblk m c 7 (tl t))
    | ⟨_ + 20, h⟩ => absurd (show _ + 20 < 20 from h) (by omega)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by dsimp only [dats]

/-! What each window's buffer holds after a point. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 (hd t)) (iblk m c 1 (hd t)) (iblk m c 2 (hd t)) := by dsimp only [dats]
theorem after9 (c : Dev nD) (t : Fin cfg0.N) : (dats m 0 c).after 9 t = out9 (iblk m c 0 (hd t)) (iblk m c 1 (hd t)) (iblk m c 3 (hd t)) := by dsimp only [dats]
theorem after10 (c : Dev nD) (t : Fin cfg0.N) : (dats m 0 c).after 10 t = out10 (iblk m c 0 (hd t)) (iblk m c 1 (hd t)) (iblk m c 4 (hd t)) := by dsimp only [dats]
theorem after11 (c : Dev nD) (t : Fin cfg0.N) : (dats m 0 c).after 11 t = out11 (iblk m c 0 (hd t)) (iblk m c 1 (hd t)) (iblk m c 5 (hd t)) := by dsimp only [dats]
theorem after12 (c : Dev nD) (t : Fin cfg0.N) : (dats m 0 c).after 12 t = out12 (iblk m c 0 (hd t)) (iblk m c 1 (hd t)) (iblk m c 6 (hd t)) := by dsimp only [dats]
theorem after13 (c : Dev nD) (t : Fin cfg0.N) : (dats m 0 c).after 13 t = out13 (iblk m c 0 (hd t)) (iblk m c 1 (hd t)) (iblk m c 7 (hd t)) := by dsimp only [dats]
theorem after14 (c : Dev nD) (t : Fin cfg0.N) : (dats m 0 c).after 14 t = out14 (iblk m c 0 (tl t)) (iblk m c 1 (tl t)) (iblk m c 2 (tl t)) := by dsimp only [dats]
theorem after15 (c : Dev nD) (t : Fin cfg0.N) : (dats m 0 c).after 15 t = out15 (iblk m c 0 (tl t)) (iblk m c 1 (tl t)) (iblk m c 3 (tl t)) := by dsimp only [dats]
theorem after16 (c : Dev nD) (t : Fin cfg0.N) : (dats m 0 c).after 16 t = out16 (iblk m c 0 (tl t)) (iblk m c 1 (tl t)) (iblk m c 4 (tl t)) := by dsimp only [dats]
theorem after17 (c : Dev nD) (t : Fin cfg0.N) : (dats m 0 c).after 17 t = out17 (iblk m c 0 (tl t)) (iblk m c 1 (tl t)) (iblk m c 5 (tl t)) := by dsimp only [dats]
theorem after18 (c : Dev nD) (t : Fin cfg0.N) : (dats m 0 c).after 18 t = out18 (iblk m c 0 (tl t)) (iblk m c 1 (tl t)) (iblk m c 6 (tl t)) := by dsimp only [dats]
theorem after19 (c : Dev nD) (t : Fin cfg0.N) : (dats m 0 c).after 19 t = out19 (iblk m c 0 (tl t)) (iblk m c 1 (tl t)) (iblk m c 7 (tl t)) := by dsimp only [dats]

/-! Each input's buffer holds its block at every point. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The obligation -/

/-- A window left alone at a point ends as its post says, if at a point that writes it back the buffer holds what the proof data names. -/
theorem pass (c : Dev nD) (w : Fin cfg0.W) (t : Fin cfg0.N) (hi : cfg0.idle w (grid0.coords t) = true)
    (h : (cfg0.win w).flush t = true → ∀ d, (dats m 0 c).before w t d = (dats m 0 c).after w t) :
    (iprop(∃ d, owns (c : Thread nD τ) ((cfg0.win w).stage (cfg0.slots t w)) fullShare ((dats m 0 c).before w t d)) : sProp (Res F)) ⊢ (dats m 0 c).leavesExact w t := by
  unfold Dat.leavesExact
  rw [hi]
  cases hf : (cfg0.win w).flush t
  · exact .rfl
  · iintro ⟨%d, H⟩
    rw [h hf d]
    iexact H

/-- A window stored into at a point ends at what the proof data names. -/
theorem live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact
  rw [hi]

/-- At a sample point a prompt window's block stays that of the last prompt point. -/
theorem hd_pred (t : Fin cfg0.N) (h : ¬t.val < 64) : hd t = hd ⟨t.val - 1, Nat.lt_of_le_of_lt (Nat.sub_le _ _) t.isLt⟩ := by
  apply Fin.ext; simp only [hd]; omega

/-- The prompt's windows are stored into at the prompt's points only, -/
theorem liveHd : ∀ w : Fin cfg0.W, 8 ≤ w.val → w.val < 14 → ∀ t : Fin cfg0.N, t.val < 64 → cfg0.idle w (grid0.coords t) = false := by
  decide +kernel
theorem idleHd : ∀ w : Fin cfg0.W, 8 ≤ w.val → w.val < 14 → ∀ t : Fin cfg0.N, ¬t.val < 64 → cfg0.idle w (grid0.coords t) = true := by
  decide +kernel
/-- and at the sample's points they still hold what was not written back. -/
theorem staleHd : ∀ w : Fin cfg0.W, 8 ≤ w.val → w.val < 14 → ∀ t : Fin cfg0.N, ¬t.val < 64 → cfg0.fresh w t.val = false := by
  decide +kernel
/-- The sample's windows are stored into at the sample's points only, -/
theorem liveTl : ∀ w : Fin cfg0.W, 14 ≤ w.val → w.val < 20 → ∀ t : Fin cfg0.N, ¬t.val < 64 → cfg0.idle w (grid0.coords t) = false := by
  decide +kernel
theorem idleTl : ∀ w : Fin cfg0.W, 14 ≤ w.val → w.val < 20 → ∀ t : Fin cfg0.N, t.val < 64 → cfg0.idle w (grid0.coords t) = true := by
  decide +kernel
/-- and not written back before. -/
theorem unflushedTl : ∀ w : Fin cfg0.W, 14 ≤ w.val → w.val < 20 → ∀ t : Fin cfg0.N, t.val < 64 → ¬(cfg0.win w).flush t = true := by
  decide +kernel
/-- Every window from the 8th on is an output. -/
theorem outs : ∀ w : Fin cfg0.W, 8 ≤ w.val → (cfg0.win w).isOut = true := by decide +kernel

theorem clips (w : Fin cfg0.W) (h0 : 8 ≤ w.val) (h1 : w.val < 14) (i : cfg0.grid.Coords) (a) : (cfg0.win w).clip i a = none := by
  obtain ⟨w, hw⟩ := w
  obtain rfl | rfl | rfl | rfl | rfl | rfl : w = 8 ∨ w = 9 ∨ w = 10 ∨ w = 11 ∨ w = 12 ∨ w = 13 := by dsimp only at h0 h1; omega
  all_goals rfl

theorem carry (c : Dev nD) (w : Fin cfg0.W) (h0 : 8 ≤ w.val) (h1 : w.val < 14) (t : Fin cfg0.N) (ht : ¬t.val < 64) :
    (dats m 0 c).after w t = (dats m 0 c).after w ⟨t.val - 1, Nat.lt_of_le_of_lt (Nat.sub_le _ _) t.isLt⟩ := by
  obtain ⟨w, hw⟩ := w
  obtain rfl | rfl | rfl | rfl | rfl | rfl : w = 8 ∨ w = 9 ∨ w = 10 ∨ w = 11 ∨ w = 12 ∨ w = 13 := by dsimp only at h0 h1; omega
  all_goals (dsimp only [dats]; rw [← hd_pred t ht])

/-- A prompt window at a sample point holds the last prompt block's products. -/
theorem kept (c : Dev nD) (w : Fin cfg0.W) (h0 : 8 ≤ w.val) (h1 : w.val < 14) (t : Fin cfg0.N) (ht : ¬t.val < 64) (d) :
    (dats m 0 c).before w t d = (dats m 0 c).after w t := by
  rw [(dats m 0 c).before_out_traj w (outs w h0) (clips w h0 h1) (fun t _ hi _ => carry m c w h0 h1 t fun hl =>
    Bool.false_ne_true ((liveHd w h0 h1 t hl).symm.trans hi)) t.val t rfl d, staleHd w h0 h1 t ht, if_neg Bool.false_ne_true, carry m c w h0 h1 t ht]

/-- What the body is called with at point `t`, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    live m c 0 t rfl, live m c 1 t rfl, live m c 2 t rfl, live m c 3 t rfl, live m c 4 t rfl, live m c 5 t rfl, live m c 6 t rfl, live m c 7 t rfl, after0, after1, after2, after3, after4, after5, after6, after7]
  by_cases h : t.val < 64
  · rw [live m c 8 t (liveHd 8 (by decide) (by decide) t h), live m c 9 t (liveHd 9 (by decide) (by decide) t h), live m c 10 t (liveHd 10 (by decide) (by decide) t h), live m c 11 t (liveHd 11 (by decide) (by decide) t h), live m c 12 t (liveHd 12 (by decide) (by decide) t h), live m c 13 t (liveHd 13 (by decide) (by decide) t h), after8, after9, after10, after11, after12, after13, hd_of_lt t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, H15, H16, H17, H18, H19⟩
    iapply (run_head c Set.univ (grid0.coords t) _ _ _ _ _ _ _ _ _ _ _ _ _ _ _ _ _ _ _ _ _ _ _ _ _ _ _ _ _ _ _ _ _ _ _ _ _ _ _ _ ((cond1_iff t).mpr h) (fun q => (cond2_iff t).mp q h) (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iapply (pass m c 14 t (idleTl 14 (by decide) (by decide) t h) fun hf => absurd hf (unflushedTl 14 (by decide) (by decide) t h)); iexact H14
    isplitl [H15]; · iapply (pass m c 15 t (idleTl 15 (by decide) (by decide) t h) fun hf => absurd hf (unflushedTl 15 (by decide) (by decide) t h)); iexact H15
    isplitl [H16]; · iapply (pass m c 16 t (idleTl 16 (by decide) (by decide) t h) fun hf => absurd hf (unflushedTl 16 (by decide) (by decide) t h)); iexact H16
    isplitl [H17]; · iapply (pass m c 17 t (idleTl 17 (by decide) (by decide) t h) fun hf => absurd hf (unflushedTl 17 (by decide) (by decide) t h)); iexact H17
    isplitl [H18]; · iapply (pass m c 18 t (idleTl 18 (by decide) (by decide) t h) fun hf => absurd hf (unflushedTl 18 (by decide) (by decide) t h)); iexact H18
    iapply (pass m c 19 t (idleTl 19 (by decide) (by decide) t h) fun hf => absurd hf (unflushedTl 19 (by decide) (by decide) t h)); iexact H19
  · rw [live m c 14 t (liveTl 14 (by decide) (by decide) t h), live m c 15 t (liveTl 15 (by decide) (by decide) t h), live m c 16 t (liveTl 16 (by decide) (by decide) t h), live m c 17 t (liveTl 17 (by decide) (by decide) t h), live m c 18 t (liveTl 18 (by decide) (by decide) t h), live m c 19 t (liveTl 19 (by decide) (by decide) t h), after14, after15, after16, after17, after18, after19, tl_of_ge t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, ⟨%d14, H14⟩, ⟨%d15, H15⟩, ⟨%d16, H16⟩, ⟨%d17, H17⟩, ⟨%d18, H18⟩, ⟨%d19, H19⟩⟩
    iapply (run_tail c Set.univ (grid0.coords t) _ _ _ _ _ _ _ _ _ _ _ _ _ _ _ _ _ _ _ _ _ _ _ _ _ _ _ _ _ _ _ _ _ _ _ _ _ _ _ _ (fun q => h ((cond1_iff t).mp q)) ((cond2_iff t).mpr h) (iblk m c 0 t) (iblk m c 1 t) (iblk m c 2 t) (iblk m c 3 t) (iblk m c 4 t) (iblk m c 5 t) (iblk m c 6 t) (iblk m c 7 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iintro ⟨H0, H1, H2, H3, H4, H5, H6, H7, H14, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (pass m c 8 t (idleHd 8 (by decide) (by decide) t h) fun _ => kept m c 8 (by decide) (by decide) t h); iexact H8
    isplitl [H9]; · iapply (pass m c 9 t (idleHd 9 (by decide) (by decide) t h) fun _ => kept m c 9 (by decide) (by decide) t h); iexact H9
    isplitl [H10]; · iapply (pass m c 10 t (idleHd 10 (by decide) (by decide) t h) fun _ => kept m c 10 (by decide) (by decide) t h); iexact H10
    isplitl [H11]; · iapply (pass m c 11 t (idleHd 11 (by decide) (by decide) t h) fun _ => kept m c 11 (by decide) (by decide) t h); iexact H11
    isplitl [H12]; · iapply (pass m c 12 t (idleHd 12 (by decide) (by decide) t h) fun _ => kept m c 12 (by decide) (by decide) t h); iexact H12
    isplitl [H13]; · iapply (pass m c 13 t (idleHd 13 (by decide) (by decide) t h) fun _ => kept m c 13 (by decide) (by decide) t h); iexact H13
    isplitl [H14]; · iexact H14
    isplitl [H15]; · iexact H15
    isplitl [H16]; · iexact H16
    isplitl [H17]; · iexact H17
    isplitl [H18]; · iexact H18
    iexact H19

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the host's operations after the region leave in the other buffers. -/
abbrev left (c : Dev nD) (b : Ref sig .tc) : Buf (Elt F) ((c.tc : Thread nD τ).loc b) :=
  Pipeline.afterTail₀ cfgs (dats m) 0 (V0 m) [hostOps1] c b

set_option backward.isDefEq.respectTransparency.types false in
set_option maxHeartbeats 1600000 in
/-- The run: every pipeline array at what the proof data compute, the other buffers as the host's last operations leave them, and every
    semaphore counter at zero. -/
theorem run_main_quiescent : θ_run defs (onTc (τ := τ) (main (F := F))) (s₀ m ρ) (fun r => (Pipeline.FramePost cfgs (dats m) 0 (left m)) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1])
    (hsub := sfx_sub) (hfresh := sfx_fresh) (hkeep := sfx_keeps) (hmain := hmain m Variants.none) (hA := A_eq m) (hΦ := fun _ _ => rfl)

/-- The same without the counters. -/
theorem run_main : θ_run defs (onTc (τ := τ) (main (F := F))) (s₀ m ρ) (Pipeline.FramePost cfgs (dats m) 0 (left m)) :=
  (θ_run defs _ _).mono (fun _ h => h.1) (run_main_quiescent m ρ)

/-- The frame: the run ends, the arguments are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel5Ideal.Hand

end
-- ==== Proof.Odd.Blocks.lean ====
/-
  The odd layer's input projections: the rows and weights of each window's block, and what a point stores.
-/
module

public import proofs.«01_k».proof.Proof.Odd.BodyIdeal
public import Idealize.ShloMosaic.Lib.Pointwise
public import Idealize.ShloMosaic.Lib.Pipeline.ValueKit

@[expose] public section

set_option maxRecDepth 16384

noncomputable section

namespace Cert.Odd

open Cert.Kernel5Ideal Cert.Kernel5Ideal.Gen Cert.Kernel5Ideal.Hand Idealize.ShloMosaic Idealize.ShloMosaic.TcCoe Idealize.SL.Sem

variable (m : (ℓ : Loc nD τ sig) → Buf (Elt Ideal) ℓ) (c : Dev nD)

/-! ## The layer's projections -/

/-- A row over its root mean square, times the gain. -/
def normed (x g : Fin 1024 → EReal) (k : Fin 1024) : EReal :=
  x k * Ideal.rsqrt (Ideal.div (∑ l : Fin 1024, x l * x l) (Ideal.ofBits FTy.f32 1149239296#32) + Ideal.ofBits FTy.f32 897988541#32) * g k

/-- The normed row times one column of the weights. -/
def proj (x g w : Fin 1024 → EReal) : EReal := ∑ k : Fin 1024, normed x g k * w k

/-- The `n` columns of the weights from the `o`th on. -/
def group (n o : ℕ) (h : o + n ≤ 4112) (w : Vec Ideal S1024x4112 .f32) (k : Fin 1024) (j : Fin n) : EReal :=
  w (ix2 k ⟨o + j.val, by omega⟩)

/-- The 16 columns of the time steps, filled with zeros up to 128. -/
def padded (w : Vec Ideal S1024x4112 .f32) (k : Fin 1024) (j : Fin 128) : EReal :=
  if h : j.val < 16 then w (ix2 k ⟨2560 + j.val, by omega⟩) else 0

/-- The prompt's row `r` projected on column `j`: the first 16384 rows are the prompt's. -/
def prompt {n : ℕ} (w : Fin 1024 → Fin n → EReal) (x : Vec Ideal S16896x1024 .f32) (g : Vec Ideal S1024 .f32) (r : Fin 16384) (j : Fin n) : EReal :=
  proj (fun k => x (ix2 ⟨r.val, by omega⟩ k)) (fun k => g (ix1 k)) fun k => w k j

/-- The same of the sample's row `r`. -/
def sample {n : ℕ} (w : Fin 1024 → Fin n → EReal) (x : Vec Ideal S16896x1024 .f32) (g : Vec Ideal S1024 .f32) (r : Fin 512) (j : Fin n) : EReal :=
  proj (fun k => x (ix2 ⟨16384 + r.val, by omega⟩ k)) (fun k => g (ix1 k)) fun k => w k j

/-! ## The windows' blocks -/

/-- The inputs' block indices at point `t`: the rows' moves, the others stay. -/
theorem inIdx : ∀ t : Fin cfg0.N, (win0_0.index t 0 = (t.val : ℕ) ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, _)

/-- The prompt windows' block indices: the point's own up to the last prompt block. -/
theorem hdIdx : ∀ t : Fin cfg0.N, (win0_8.index t 0 = min t.val 63 ∧ win0_8.index t 1 = 0)
    ∧ (win0_9.index t 0 = min t.val 63 ∧ win0_9.index t 1 = 0)
    ∧ (win0_10.index t 0 = min t.val 63 ∧ win0_10.index t 1 = 0)
    ∧ (win0_11.index t 0 = min t.val 63 ∧ win0_11.index t 1 = 0)
    ∧ (win0_12.index t 0 = min t.val 63 ∧ win0_12.index t 1 = 0)
    ∧ (win0_13.index t 0 = min t.val 63 ∧ win0_13.index t 1 = 0) :=
  (by decide +kernel : ∀ t : Fin grid0.N, _)

/-- The sample windows' block indices. -/
theorem tlIdx : ∀ t : Fin cfg0.N, (win0_14.index t 0 = t.val - 64 ∧ win0_14.index t 1 = 0)
    ∧ (win0_15.index t 0 = t.val - 64 ∧ win0_15.index t 1 = 0)
    ∧ (win0_16.index t 0 = t.val - 64 ∧ win0_16.index t 1 = 0)
    ∧ (win0_17.index t 0 = t.val - 64 ∧ win0_17.index t 1 = 0)
    ∧ (win0_18.index t 0 = t.val - 64 ∧ win0_18.index t 1 = 0)
    ∧ (win0_19.index t 0 = t.val - 64 ∧ win0_19.index t 1 = 0) :=
  (by decide +kernel : ∀ t : Fin grid0.N, _)

variable (t : Fin cfg0.N)

/-- The row of row `i` of point `t`'s block, -/
def row (i : Fin 256) : Fin 16896 := ⟨256 * t.val + i.val, by
  have := lt_of_lt_of_eq t.isLt (show cfg0.N = 66 from N_0); omega⟩
theorem row_val (i : Fin 256) : (row t i).val = 256 * t.val + i.val := rfl

/-- of the prompt windows' block there, -/
def hdRow (i : Fin 256) : Fin 16384 := ⟨256 * min t.val 63 + i.val, by omega⟩
theorem hdRow_val (i : Fin 256) : (hdRow t i).val = 256 * min t.val 63 + i.val := rfl

/-- and of the sample windows'. -/
def tlRow (i : Fin 256) : Fin 512 := ⟨256 * (t.val - 64) + i.val, by
  have := lt_of_lt_of_eq t.isLt (show cfg0.N = 66 from N_0); omega⟩
theorem tlRow_val (i : Fin 256) : (tlRow t i).val = 256 * (t.val - 64) + i.val := rfl

theorem blk0 (i : Fin 256) (k : Fin 1024) : (iblk m c 0 t : Vec Ideal S256x1024 .f32) (ix2 i k)
    = m ((c : Thread nD τ).loc main_arg0) (ix2 (row t i) k) := by
  obtain ⟨⟨h0, h1⟩, -⟩ := inIdx t
  blk_ext! [iblk, V, h0, h1, row_val]

/-! The host's arrays when the region is entered, as the operations before it left them. -/

theorem V_gain : V m c main_v8 = (shapeCast S1x1024 (m ((c : Thread nD τ).loc main_arg1)) shapeCasts_S1024_S1x1024 : Vec Ideal S1x1024 .f32) := rfl

theorem V_w0 : V m c main_v1 = (extractStridedSlice S1024x1024 ![0, 0] (truncf (F := Ideal) .bf16 ((m ((c : Thread nD τ).loc main_arg2)) : Vec Ideal S1024x4112 .f32) bitsLt_bf16_f32)
    slices_S1024x4112_S1024x1024_0_0 : Vec Ideal S1024x1024 .bf16) := rfl
theorem V_w1 : V m c main_v2 = (extractStridedSlice S1024x1536 ![0, 1024] (truncf (F := Ideal) .bf16 ((m ((c : Thread nD τ).loc main_arg2)) : Vec Ideal S1024x4112 .f32) bitsLt_bf16_f32)
    slices_S1024x4112_S1024x1536_0_1024 : Vec Ideal S1024x1536 .bf16) := rfl
theorem V_w2 : V m c main_v7 = (pad S1024x128 ![0, 0] ![0, 112] ![0, 0]
    (extractStridedSlice S1024x16 ![0, 2560] (truncf (F := Ideal) .bf16 ((m ((c : Thread nD τ).loc main_arg2)) : Vec Ideal S1024x4112 .f32) bitsLt_bf16_f32) slices_S1024x4112_S1024x16_0_2560)
    (sitofp (F := Ideal) .bf16 (constantI S_ 32 0#32) : Vec Ideal S_ .bf16) pads_S1024x16_S1024x128_000_01120 h_S_ : Vec Ideal S1024x128 .bf16) := rfl
theorem V_w3 : V m c main_v4 = (extractStridedSlice S1024x512 ![0, 2576] (truncf (F := Ideal) .bf16 ((m ((c : Thread nD τ).loc main_arg2)) : Vec Ideal S1024x4112 .f32) bitsLt_bf16_f32)
    slices_S1024x4112_S1024x512_0_2576 : Vec Ideal S1024x512 .bf16) := rfl
theorem V_w4 : V m c main_v5 = (extractStridedSlice S1024x512 ![0, 3088] (truncf (F := Ideal) .bf16 ((m ((c : Thread nD τ).loc main_arg2)) : Vec Ideal S1024x4112 .f32) bitsLt_bf16_f32)
    slices_S1024x4112_S1024x512_0_3088 : Vec Ideal S1024x512 .bf16) := rfl
theorem V_w5 : V m c main_v6 = (extractStridedSlice S1024x512 ![0, 3600] (truncf (F := Ideal) .bf16 ((m ((c : Thread nD τ).loc main_arg2)) : Vec Ideal S1024x4112 .f32) bitsLt_bf16_f32)
    slices_S1024x4112_S1024x512_0_3600 : Vec Ideal S1024x512 .bf16) := rfl

theorem blk1 (k : Fin 1024) : (iblk m c 1 t : Vec Ideal S1x1024 .f32) (ix2 0 k) = m ((c : Thread nD τ).loc main_arg1) (ix1 k) := by
  obtain ⟨-, ⟨h0, h1⟩, -⟩ := inIdx t
  have e : ((cfg0.win 1).blk t).view.emb (ix2 0 k) = (ix2 0 k : S1x1024.Idx) := by blk_ext [h0, h1]
  refine (congrArg (V m c main_v8) e).trans ?_
  rw [V_gain]
  pointwise

/-- The number the padding is filled with is zero. -/
theorem fill {φ : FTy} : FloatOps.sitofp (F := Ideal) φ 0#32 = (0 : EReal) := by
  show (((0#32 : BitVec 32).toInt : ℝ) : EReal) = 0
  simp

/-- The weights' arrays, entry by entry: the columns of the layer's weights in turn. -/
theorem V_at (k : Fin 1024) : (∀ j : Fin 1024, (V m c main_v1 : Vec Ideal S1024x1024 .bf16) (ix2 k j) = group 1024 0 (by decide) (m ((c : Thread nD τ).loc main_arg2)) k j)
    ∧ (∀ j : Fin 1536, (V m c main_v2 : Vec Ideal S1024x1536 .bf16) (ix2 k j) = group 1536 1024 (by decide) (m ((c : Thread nD τ).loc main_arg2)) k j)
    ∧ (∀ j : Fin 128, (V m c main_v7 : Vec Ideal S1024x128 .bf16) (ix2 k j) = padded (m ((c : Thread nD τ).loc main_arg2)) k j)
    ∧ (∀ j : Fin 512, (V m c main_v4 : Vec Ideal S1024x512 .bf16) (ix2 k j) = group 512 2576 (by decide) (m ((c : Thread nD τ).loc main_arg2)) k j)
    ∧ (∀ j : Fin 512, (V m c main_v5 : Vec Ideal S1024x512 .bf16) (ix2 k j) = group 512 3088 (by decide) (m ((c : Thread nD τ).loc main_arg2)) k j)
    ∧ (∀ j : Fin 512, (V m c main_v6 : Vec Ideal S1024x512 .bf16) (ix2 k j) = group 512 3600 (by decide) (m ((c : Thread nD τ).loc main_arg2)) k j) := by
  rw [V_w0, V_w1, V_w2, V_w3, V_w4, V_w5]
  refine ⟨?_, ?_, ?_, ?_, ?_, ?_⟩
  all_goals
    intro j
    pointwise [group, padded]
  rw [fill]

/-- Where the weights' blocks lie: each is the whole array. -/
theorem embW (k : Fin 1024) : (∀ j : Fin 1024, ((cfg0.win 2).blk t).view.emb (ix2 k j) = (ix2 k j : S1024x1024.Idx))
    ∧ (∀ j : Fin 1536, ((cfg0.win 3).blk t).view.emb (ix2 k j) = (ix2 k j : S1024x1536.Idx))
    ∧ (∀ j : Fin 128, ((cfg0.win 4).blk t).view.emb (ix2 k j) = (ix2 k j : S1024x128.Idx))
    ∧ (∀ j : Fin 512, ((cfg0.win 5).blk t).view.emb (ix2 k j) = (ix2 k j : S1024x512.Idx))
    ∧ (∀ j : Fin 512, ((cfg0.win 6).blk t).view.emb (ix2 k j) = (ix2 k j : S1024x512.Idx))
    ∧ (∀ j : Fin 512, ((cfg0.win 7).blk t).view.emb (ix2 k j) = (ix2 k j : S1024x512.Idx)) := by
  have h := inIdx t
  refine ⟨?_, ?_, ?_, ?_, ?_, ?_⟩
  all_goals
    intro j
    blk_ext [h]

/-- The weights' blocks: the columns of the layer's weights in turn. -/
theorem blkW : (∀ (k : Fin 1024) (j : Fin 1024), (iblk m c 2 t : Vec Ideal S1024x1024 .bf16) (ix2 k j) = group 1024 0 (by decide) (m ((c : Thread nD τ).loc main_arg2)) k j)
    ∧ (∀ (k : Fin 1024) (j : Fin 1536), (iblk m c 3 t : Vec Ideal S1024x1536 .bf16) (ix2 k j) = group 1536 1024 (by decide) (m ((c : Thread nD τ).loc main_arg2)) k j)
    ∧ (∀ (k : Fin 1024) (j : Fin 128), (iblk m c 4 t : Vec Ideal S1024x128 .bf16) (ix2 k j) = padded (m ((c : Thread nD τ).loc main_arg2)) k j)
    ∧ (∀ (k : Fin 1024) (j : Fin 512), (iblk m c 5 t : Vec Ideal S1024x512 .bf16) (ix2 k j) = group 512 2576 (by decide) (m ((c : Thread nD τ).loc main_arg2)) k j)
    ∧ (∀ (k : Fin 1024) (j : Fin 512), (iblk m c 6 t : Vec Ideal S1024x512 .bf16) (ix2 k j) = group 512 3088 (by decide) (m ((c : Thread nD τ).loc main_arg2)) k j)
    ∧ (∀ (k : Fin 1024) (j : Fin 512), (iblk m c 7 t : Vec Ideal S1024x512 .bf16) (ix2 k j) = group 512 3600 (by decide) (m ((c : Thread nD τ).loc main_arg2)) k j) :=
  ⟨fun k j => (congrArg (V m c main_v1) ((embW t k).1 j)).trans ((V_at m c k).1 j), fun k j => (congrArg (V m c main_v2) ((embW t k).2.1 j)).trans ((V_at m c k).2.1 j), fun k j => (congrArg (V m c main_v7) ((embW t k).2.2.1 j)).trans ((V_at m c k).2.2.1 j), fun k j => (congrArg (V m c main_v4) ((embW t k).2.2.2.1 j)).trans ((V_at m c k).2.2.2.1 j), fun k j => (congrArg (V m c main_v5) ((embW t k).2.2.2.2.1 j)).trans ((V_at m c k).2.2.2.2.1 j), fun k j => (congrArg (V m c main_v6) ((embW t k).2.2.2.2.2 j)).trans ((V_at m c k).2.2.2.2.2 j)⟩

/-- Where the prompt windows' blocks lie, -/
theorem embHd (i : Fin 256) : (∀ j : Fin 1024, ((cfg0.win 8).blk t).view.emb (ix2 i j) = (ix2 (hdRow t i) j : S16384x1024.Idx))
    ∧ (∀ j : Fin 1536, ((cfg0.win 9).blk t).view.emb (ix2 i j) = (ix2 (hdRow t i) j : S16384x1536.Idx))
    ∧ (∀ j : Fin 128, ((cfg0.win 10).blk t).view.emb (ix2 i j) = (ix2 (hdRow t i) j : S16384x128.Idx))
    ∧ (∀ j : Fin 512, ((cfg0.win 11).blk t).view.emb (ix2 i j) = (ix2 (hdRow t i) j : S16384x512.Idx))
    ∧ (∀ j : Fin 512, ((cfg0.win 12).blk t).view.emb (ix2 i j) = (ix2 (hdRow t i) j : S16384x512.Idx))
    ∧ (∀ j : Fin 512, ((cfg0.win 13).blk t).view.emb (ix2 i j) = (ix2 (hdRow t i) j : S16384x512.Idx)) := by
  have h := hdIdx t
  refine ⟨?_, ?_, ?_, ?_, ?_, ?_⟩
  all_goals
    intro j
    blk_ext [h, hdRow_val]

/-- and the sample windows'. -/
theorem embTl (i : Fin 256) : (∀ j : Fin 1024, ((cfg0.win 14).blk t).view.emb (ix2 i j) = (ix2 (tlRow t i) j : S512x1024.Idx))
    ∧ (∀ j : Fin 1536, ((cfg0.win 15).blk t).view.emb (ix2 i j) = (ix2 (tlRow t i) j : S512x1536.Idx))
    ∧ (∀ j : Fin 128, ((cfg0.win 16).blk t).view.emb (ix2 i j) = (ix2 (tlRow t i) j : S512x128.Idx))
    ∧ (∀ j : Fin 512, ((cfg0.win 17).blk t).view.emb (ix2 i j) = (ix2 (tlRow t i) j : S512x512.Idx))
    ∧ (∀ j : Fin 512, ((cfg0.win 18).blk t).view.emb (ix2 i j) = (ix2 (tlRow t i) j : S512x512.Idx))
    ∧ (∀ j : Fin 512, ((cfg0.win 19).blk t).view.emb (ix2 i j) = (ix2 (tlRow t i) j : S512x512.Idx)) := by
  have h := tlIdx t
  refine ⟨?_, ?_, ?_, ?_, ?_, ?_⟩
  all_goals
    intro j
    blk_ext [h, tlRow_val]

/-- What a point stores, entry by entry: its rows' projections on its weights' columns. -/
theorem out_at (x : Vec Ideal S256x1024 .f32) (g : Vec Ideal S1x1024 .f32) (i : Fin 256) : (∀ (w : Vec Ideal S1024x1024 .bf16) (j : Fin 1024), out8 x g w (ix2 i j) = proj (fun k => x (ix2 i k)) (fun k => g (ix2 0 k)) fun k => w (ix2 k j))
    ∧ (∀ (w : Vec Ideal S1024x1536 .bf16) (j : Fin 1536), out9 x g w (ix2 i j) = proj (fun k => x (ix2 i k)) (fun k => g (ix2 0 k)) fun k => w (ix2 k j))
    ∧ (∀ (w : Vec Ideal S1024x128 .bf16) (j : Fin 128), out10 x g w (ix2 i j) = proj (fun k => x (ix2 i k)) (fun k => g (ix2 0 k)) fun k => w (ix2 k j))
    ∧ (∀ (w : Vec Ideal S1024x512 .bf16) (j : Fin 512), out11 x g w (ix2 i j) = proj (fun k => x (ix2 i k)) (fun k => g (ix2 0 k)) fun k => w (ix2 k j))
    ∧ (∀ (w : Vec Ideal S1024x512 .bf16) (j : Fin 512), out12 x g w (ix2 i j) = proj (fun k => x (ix2 i k)) (fun k => g (ix2 0 k)) fun k => w (ix2 k j))
    ∧ (∀ (w : Vec Ideal S1024x512 .bf16) (j : Fin 512), out13 x g w (ix2 i j) = proj (fun k => x (ix2 i k)) (fun k => g (ix2 0 k)) fun k => w (ix2 k j))
    ∧ (∀ (w : Vec Ideal S1024x1024 .bf16) (j : Fin 1024), out14 x g w (ix2 i j) = proj (fun k => x (ix2 i k)) (fun k => g (ix2 0 k)) fun k => w (ix2 k j))
    ∧ (∀ (w : Vec Ideal S1024x1536 .bf16) (j : Fin 1536), out15 x g w (ix2 i j) = proj (fun k => x (ix2 i k)) (fun k => g (ix2 0 k)) fun k => w (ix2 k j))
    ∧ (∀ (w : Vec Ideal S1024x128 .bf16) (j : Fin 128), out16 x g w (ix2 i j) = proj (fun k => x (ix2 i k)) (fun k => g (ix2 0 k)) fun k => w (ix2 k j))
    ∧ (∀ (w : Vec Ideal S1024x512 .bf16) (j : Fin 512), out17 x g w (ix2 i j) = proj (fun k => x (ix2 i k)) (fun k => g (ix2 0 k)) fun k => w (ix2 k j))
    ∧ (∀ (w : Vec Ideal S1024x512 .bf16) (j : Fin 512), out18 x g w (ix2 i j) = proj (fun k => x (ix2 i k)) (fun k => g (ix2 0 k)) fun k => w (ix2 k j))
    ∧ (∀ (w : Vec Ideal S1024x512 .bf16) (j : Fin 512), out19 x g w (ix2 i j) = proj (fun k => x (ix2 i k)) (fun k => g (ix2 0 k)) fun k => w (ix2 k j)) := by
  refine ⟨?_, ?_, ?_, ?_, ?_, ?_, ?_, ?_, ?_, ?_, ?_, ?_⟩
  all_goals
    intro w j
    first | unfold out8 | unfold out9 | unfold out10 | unfold out11 | unfold out12 | unfold out13 | unfold out14 | unfold out15 | unfold out16 | unfold out17 | unfold out18 | unfold out19
    frame_out
    pointwise [k0_pay1, k0_pay2, k0_pay3, k0_pay4, k0_pay5, k0_pay6, k0_pay7, k0_pay8, k0_pay9, k0_pay10, k0_pay11, k0_pay12, k0_pay13, proj, normed]

end Cert.Odd

end
-- ==== Proof.Odd.Value.lean ====
/-
  The odd layer's input projections: the kernel's arrays after the run are the normed rows times the weights' columns.
-/
module

public import proofs.«01_k».proof.Proof.Odd.Blocks
public import Idealize.ShloMosaic.Lib.Pointwise
public import Idealize.ShloMosaic.Lib.Pipeline.ValueKit

@[expose] public section

set_option maxRecDepth 16384

noncomputable section

namespace Cert.Odd

open Cert.Kernel5Ideal Cert.Kernel5Ideal.Gen Cert.Kernel5Ideal.Hand Idealize.ShloMosaic Idealize.ShloMosaic.TcCoe Idealize.SL.Sem

variable (m : (ℓ : Loc nD τ sig) → Buf (Elt Ideal) ℓ) (c : Dev nD)

variable (t : Fin cfg0.N)

/-- The same as an array: all the prompt's rows. -/
def promptArr {n : ℕ} (w : Fin 1024 → Fin n → EReal) (x : Vec Ideal S16896x1024 .f32) (g : Vec Ideal S1024 .f32) :
    (⟨2, ![16384, n]⟩ : Shape).Idx → EReal := fun y => prompt w x g (y 0) (y 1)

/-- All the sample's rows. -/
def sampleArr {n : ℕ} (w : Fin 1024 → Fin n → EReal) (x : Vec Ideal S16896x1024 .f32) (g : Vec Ideal S1024 .f32) :
    (⟨2, ![512, n]⟩ : Shape).Idx → EReal := fun y => sample w x g (y 0) (y 1)

/-- What the prompt's windows are left with at a point is the prompt's projection, on any columns. -/
theorem prompt_at {n : ℕ} (u : Fin 1024 → Fin n → EReal) (i : Fin 256) (j : Fin n) (O : EReal) (w : Fin 1024 → EReal)
    (hO : O = proj (fun k => (iblk m c 0 (hd t) : Vec Ideal S256x1024 .f32) (ix2 i k)) (fun k => (iblk m c 1 (hd t) : Vec Ideal S1x1024 .f32) (ix2 0 k)) w)
    (hw : ∀ k, w k = u k j) :
    O = prompt u (m ((c : Thread nD τ).loc main_arg0)) (m ((c : Thread nD τ).loc main_arg1)) (hdRow t i) j := by
  have e : row (hd t) i = ⟨(hdRow t i).val, by omega⟩ := Fin.ext (by simp only [row_val, hdRow_val, hd])
  rw [hO, funext hw]
  unfold prompt
  refine (congrArg (fun x => proj x _ _) (funext fun k => (blk0 m c (hd t) i k).trans (by rw [e]))).trans ?_
  exact congrArg (fun g => proj _ g _) (funext fun k => blk1 m c (hd t) k)

/-- What the sample's windows are left with at a point is the sample's projection, on any columns. -/
theorem sample_at {n : ℕ} (u : Fin 1024 → Fin n → EReal) (i : Fin 256) (j : Fin n) (O : EReal) (w : Fin 1024 → EReal)
    (hO : O = proj (fun k => (iblk m c 0 (tl t) : Vec Ideal S256x1024 .f32) (ix2 i k)) (fun k => (iblk m c 1 (tl t) : Vec Ideal S1x1024 .f32) (ix2 0 k)) w)
    (hw : ∀ k, w k = u k j) :
    O = sample u (m ((c : Thread nD τ).loc main_arg0)) (m ((c : Thread nD τ).loc main_arg1)) (tlRow t i) j := by
  have e : row (tl t) i = ⟨16384 + (tlRow t i).val, by omega⟩ := Fin.ext (by simp only [row_val, tlRow_val, tl]; omega)
  rw [hO, funext hw]
  unfold sample
  refine (congrArg (fun x => proj x _ _) (funext fun k => (blk0 m c (tl t) i k).trans (by rw [e]))).trans ?_
  exact congrArg (fun g => proj _ g _) (funext fun k => blk1 m c (tl t) k)

set_option maxHeartbeats 1600000 in
/-- The prompt's arrays after the run. -/
theorem heads_eq : (dats m 0 c).arrAt 8 (cfgs 0).N = promptArr (group 1024 0 (by decide) (m ((c : Thread nD τ).loc main_arg2))) (m ((c : Thread nD τ).loc main_arg0)) (m ((c : Thread nD τ).loc main_arg1))
    ∧ (dats m 0 c).arrAt 9 (cfgs 0).N = promptArr (group 1536 1024 (by decide) (m ((c : Thread nD τ).loc main_arg2))) (m ((c : Thread nD τ).loc main_arg0)) (m ((c : Thread nD τ).loc main_arg1))
    ∧ (dats m 0 c).arrAt 10 (cfgs 0).N = promptArr (padded (m ((c : Thread nD τ).loc main_arg2))) (m ((c : Thread nD τ).loc main_arg0)) (m ((c : Thread nD τ).loc main_arg1))
    ∧ (dats m 0 c).arrAt 11 (cfgs 0).N = promptArr (group 512 2576 (by decide) (m ((c : Thread nD τ).loc main_arg2))) (m ((c : Thread nD τ).loc main_arg0)) (m ((c : Thread nD τ).loc main_arg1))
    ∧ (dats m 0 c).arrAt 12 (cfgs 0).N = promptArr (group 512 3088 (by decide) (m ((c : Thread nD τ).loc main_arg2))) (m ((c : Thread nD τ).loc main_arg0)) (m ((c : Thread nD τ).loc main_arg1))
    ∧ (dats m 0 c).arrAt 13 (cfgs 0).N = promptArr (group 512 3600 (by decide) (m ((c : Thread nD τ).loc main_arg2))) (m ((c : Thread nD τ).loc main_arg0)) (m ((c : Thread nD τ).loc main_arg1)) := by
  refine ⟨?_, ?_, ?_, ?_, ?_, ?_⟩
  · refine (dats m 0 c).arrAt_eq_of_covers 8 _ (by decide +kernel) fun t hf y => ?_
    blk_simp
    rw [after8]
    idx_vars y
    have h1 := prompt_at m c t (group 1024 0 (by decide) (m ((c : Thread nD τ).loc main_arg2))) y0 y1 _ _
      ((out_at (iblk m c 0 (hd t)) (iblk m c 1 (hd t)) y0).1 (iblk m c 2 (hd t)) y1) fun k => (blkW m c (hd t)).1 k y1
    have h2 := congrArg (promptArr (group 1024 0 (by decide) (m ((c : Thread nD τ).loc main_arg2))) (m ((c : Thread nD τ).loc main_arg0)) (m ((c : Thread nD τ).loc main_arg1))) ((embHd t y0).1 y1).symm
    exact h1.trans h2
  · refine (dats m 0 c).arrAt_eq_of_covers 9 _ (by decide +kernel) fun t hf y => ?_
    blk_simp
    rw [after9]
    idx_vars y
    have h1 := prompt_at m c t (group 1536 1024 (by decide) (m ((c : Thread nD τ).loc main_arg2))) y0 y1 _ _
      ((out_at (iblk m c 0 (hd t)) (iblk m c 1 (hd t)) y0).2.1 (iblk m c 3 (hd t)) y1) fun k => (blkW m c (hd t)).2.1 k y1
    have h2 := congrArg (promptArr (group 1536 1024 (by decide) (m ((c : Thread nD τ).loc main_arg2))) (m ((c : Thread nD τ).loc main_arg0)) (m ((c : Thread nD τ).loc main_arg1))) ((embHd t y0).2.1 y1).symm
    exact h1.trans h2
  · refine (dats m 0 c).arrAt_eq_of_covers 10 _ (by decide +kernel) fun t hf y => ?_
    blk_simp
    rw [after10]
    idx_vars y
    have h1 := prompt_at m c t (padded (m ((c : Thread nD τ).loc main_arg2))) y0 y1 _ _
      ((out_at (iblk m c 0 (hd t)) (iblk m c 1 (hd t)) y0).2.2.1 (iblk m c 4 (hd t)) y1) fun k => (blkW m c (hd t)).2.2.1 k y1
    have h2 := congrArg (promptArr (padded (m ((c : Thread nD τ).loc main_arg2))) (m ((c : Thread nD τ).loc main_arg0)) (m ((c : Thread nD τ).loc main_arg1))) ((embHd t y0).2.2.1 y1).symm
    exact h1.trans h2
  · refine (dats m 0 c).arrAt_eq_of_covers 11 _ (by decide +kernel) fun t hf y => ?_
    blk_simp
    rw [after11]
    idx_vars y
    have h1 := prompt_at m c t (group 512 2576 (by decide) (m ((c : Thread nD τ).loc main_arg2))) y0 y1 _ _
      ((out_at (iblk m c 0 (hd t)) (iblk m c 1 (hd t)) y0).2.2.2.1 (iblk m c 5 (hd t)) y1) fun k => (blkW m c (hd t)).2.2.2.1 k y1
    have h2 := congrArg (promptArr (group 512 2576 (by decide) (m ((c : Thread nD τ).loc main_arg2))) (m ((c : Thread nD τ).loc main_arg0)) (m ((c : Thread nD τ).loc main_arg1))) ((embHd t y0).2.2.2.1 y1).symm
    exact h1.trans h2
  · refine (dats m 0 c).arrAt_eq_of_covers 12 _ (by decide +kernel) fun t hf y => ?_
    blk_simp
    rw [after12]
    idx_vars y
    have h1 := prompt_at m c t (group 512 3088 (by decide) (m ((c : Thread nD τ).loc main_arg2))) y0 y1 _ _
      ((out_at (iblk m c 0 (hd t)) (iblk m c 1 (hd t)) y0).2.2.2.2.1 (iblk m c 6 (hd t)) y1) fun k => (blkW m c (hd t)).2.2.2.2.1 k y1
    have h2 := congrArg (promptArr (group 512 3088 (by decide) (m ((c : Thread nD τ).loc main_arg2))) (m ((c : Thread nD τ).loc main_arg0)) (m ((c : Thread nD τ).loc main_arg1))) ((embHd t y0).2.2.2.2.1 y1).symm
    exact h1.trans h2
  · refine (dats m 0 c).arrAt_eq_of_covers 13 _ (by decide +kernel) fun t hf y => ?_
    blk_simp
    rw [after13]
    idx_vars y
    have h1 := prompt_at m c t (group 512 3600 (by decide) (m ((c : Thread nD τ).loc main_arg2))) y0 y1 _ _
      ((out_at (iblk m c 0 (hd t)) (iblk m c 1 (hd t)) y0).2.2.2.2.2.1 (iblk m c 7 (hd t)) y1) fun k => (blkW m c (hd t)).2.2.2.2.2 k y1
    have h2 := congrArg (promptArr (group 512 3600 (by decide) (m ((c : Thread nD τ).loc main_arg2))) (m ((c : Thread nD τ).loc main_arg0)) (m ((c : Thread nD τ).loc main_arg1))) ((embHd t y0).2.2.2.2.2 y1).symm
    exact h1.trans h2

set_option maxHeartbeats 1600000 in
/-- The sample's arrays after the run. -/
theorem tails_eq : (dats m 0 c).arrAt 14 (cfgs 0).N = sampleArr (group 1024 0 (by decide) (m ((c : Thread nD τ).loc main_arg2))) (m ((c : Thread nD τ).loc main_arg0)) (m ((c : Thread nD τ).loc main_arg1))
    ∧ (dats m 0 c).arrAt 15 (cfgs 0).N = sampleArr (group 1536 1024 (by decide) (m ((c : Thread nD τ).loc main_arg2))) (m ((c : Thread nD τ).loc main_arg0)) (m ((c : Thread nD τ).loc main_arg1))
    ∧ (dats m 0 c).arrAt 16 (cfgs 0).N = sampleArr (padded (m ((c : Thread nD τ).loc main_arg2))) (m ((c : Thread nD τ).loc main_arg0)) (m ((c : Thread nD τ).loc main_arg1))
    ∧ (dats m 0 c).arrAt 17 (cfgs 0).N = sampleArr (group 512 2576 (by decide) (m ((c : Thread nD τ).loc main_arg2))) (m ((c : Thread nD τ).loc main_arg0)) (m ((c : Thread nD τ).loc main_arg1))
    ∧ (dats m 0 c).arrAt 18 (cfgs 0).N = sampleArr (group 512 3088 (by decide) (m ((c : Thread nD τ).loc main_arg2))) (m ((c : Thread nD τ).loc main_arg0)) (m ((c : Thread nD τ).loc main_arg1))
    ∧ (dats m 0 c).arrAt 19 (cfgs 0).N = sampleArr (group 512 3600 (by decide) (m ((c : Thread nD τ).loc main_arg2))) (m ((c : Thread nD τ).loc main_arg0)) (m ((c : Thread nD τ).loc main_arg1)) := by
  refine ⟨?_, ?_, ?_, ?_, ?_, ?_⟩
  · refine (dats m 0 c).arrAt_eq_of_covers 14 _ (by decide +kernel) fun t hf y => ?_
    blk_simp
    rw [after14]
    idx_vars y
    have h1 := sample_at m c t (group 1024 0 (by decide) (m ((c : Thread nD τ).loc main_arg2))) y0 y1 _ _
      ((out_at (iblk m c 0 (tl t)) (iblk m c 1 (tl t)) y0).2.2.2.2.2.2.1 (iblk m c 2 (tl t)) y1) fun k => (blkW m c (tl t)).1 k y1
    have h2 := congrArg (sampleArr (group 1024 0 (by decide) (m ((c : Thread nD τ).loc main_arg2))) (m ((c : Thread nD τ).loc main_arg0)) (m ((c : Thread nD τ).loc main_arg1))) ((embTl t y0).1 y1).symm
    exact h1.trans h2
  · refine (dats m 0 c).arrAt_eq_of_covers 15 _ (by decide +kernel) fun t hf y => ?_
    blk_simp
    rw [after15]
    idx_vars y
    have h1 := sample_at m c t (group 1536 1024 (by decide) (m ((c : Thread nD τ).loc main_arg2))) y0 y1 _ _
      ((out_at (iblk m c 0 (tl t)) (iblk m c 1 (tl t)) y0).2.2.2.2.2.2.2.1 (iblk m c 3 (tl t)) y1) fun k => (blkW m c (tl t)).2.1 k y1
    have h2 := congrArg (sampleArr (group 1536 1024 (by decide) (m ((c : Thread nD τ).loc main_arg2))) (m ((c : Thread nD τ).loc main_arg0)) (m ((c : Thread nD τ).loc main_arg1))) ((embTl t y0).2.1 y1).symm
    exact h1.trans h2
  · refine (dats m 0 c).arrAt_eq_of_covers 16 _ (by decide +kernel) fun t hf y => ?_
    blk_simp
    rw [after16]
    idx_vars y
    have h1 := sample_at m c t (padded (m ((c : Thread nD τ).loc main_arg2))) y0 y1 _ _
      ((out_at (iblk m c 0 (tl t)) (iblk m c 1 (tl t)) y0).2.2.2.2.2.2.2.2.1 (iblk m c 4 (tl t)) y1) fun k => (blkW m c (tl t)).2.2.1 k y1
    have h2 := congrArg (sampleArr (padded (m ((c : Thread nD τ).loc main_arg2))) (m ((c : Thread nD τ).loc main_arg0)) (m ((c : Thread nD τ).loc main_arg1))) ((embTl t y0).2.2.1 y1).symm
    exact h1.trans h2
  · refine (dats m 0 c).arrAt_eq_of_covers 17 _ (by decide +kernel) fun t hf y => ?_
    blk_simp
    rw [after17]
    idx_vars y
    have h1 := sample_at m c t (group 512 2576 (by decide) (m ((c : Thread nD τ).loc main_arg2))) y0 y1 _ _
      ((out_at (iblk m c 0 (tl t)) (iblk m c 1 (tl t)) y0).2.2.2.2.2.2.2.2.2.1 (iblk m c 5 (tl t)) y1) fun k => (blkW m c (tl t)).2.2.2.1 k y1
    have h2 := congrArg (sampleArr (group 512 2576 (by decide) (m ((c : Thread nD τ).loc main_arg2))) (m ((c : Thread nD τ).loc main_arg0)) (m ((c : Thread nD τ).loc main_arg1))) ((embTl t y0).2.2.2.1 y1).symm
    exact h1.trans h2
  · refine (dats m 0 c).arrAt_eq_of_covers 18 _ (by decide +kernel) fun t hf y => ?_
    blk_simp
    rw [after18]
    idx_vars y
    have h1 := sample_at m c t (group 512 3088 (by decide) (m ((c : Thread nD τ).loc main_arg2))) y0 y1 _ _
      ((out_at (iblk m c 0 (tl t)) (iblk m c 1 (tl t)) y0).2.2.2.2.2.2.2.2.2.2.1 (iblk m c 6 (tl t)) y1) fun k => (blkW m c (tl t)).2.2.2.2.1 k y1
    have h2 := congrArg (sampleArr (group 512 3088 (by decide) (m ((c : Thread nD τ).loc main_arg2))) (m ((c : Thread nD τ).loc main_arg0)) (m ((c : Thread nD τ).loc main_arg1))) ((embTl t y0).2.2.2.2.1 y1).symm
    exact h1.trans h2
  · refine (dats m 0 c).arrAt_eq_of_covers 19 _ (by decide +kernel) fun t hf y => ?_
    blk_simp
    rw [after19]
    idx_vars y
    have h1 := sample_at m c t (group 512 3600 (by decide) (m ((c : Thread nD τ).loc main_arg2))) y0 y1 _ _
      ((out_at (iblk m c 0 (tl t)) (iblk m c 1 (tl t)) y0).2.2.2.2.2.2.2.2.2.2.2 (iblk m c 7 (tl t)) y1) fun k => (blkW m c (tl t)).2.2.2.2.2 k y1
    have h2 := congrArg (sampleArr (group 512 3600 (by decide) (m ((c : Thread nD τ).loc main_arg2))) (m ((c : Thread nD τ).loc main_arg0)) (m ((c : Thread nD τ).loc main_arg1))) ((embTl t y0).2.2.2.2.2 y1).symm
    exact h1.trans h2

end Cert.Odd

end
-- ==== Proof.Odd.Tail.lean ====
/-
  The odd layer's input projections: the rows the convolution keeps for the next call, which the host cuts from the
  projected stream after the kernel.
-/
module

public import proofs.«01_k».proof.Proof.Odd.Value
public import Idealize.ShloMosaic.Lib.Pointwise

@[expose] public section

set_option maxRecDepth 16384

noncomputable section

namespace Cert.Odd

open Cert.Kernel5Ideal Cert.Kernel5Ideal.Gen Cert.Kernel5Ideal.Hand Idealize.ShloMosaic Idealize.ShloMosaic.TcCoe Idealize.SL.Sem

variable (m : (ℓ : Loc nD τ sig) → Buf (Elt Ideal) ℓ) (c : Dev nD)

/-- The last three rows of each prompt's projected stream. -/
def newPrompt (w : Vec Ideal S1024x4112 .f32) (x : Vec Ideal S16896x1024 .f32) (g : Vec Ideal S1024 .f32) : Vec Ideal S8x3x1536 .f32 :=
  fun y => promptArr (group 1536 1024 (by decide) w) x g (ix2 ⟨2048 * (y 0).val + (y 1).val + 2045, by
    have h0 : (y 0).val < 8 := (y 0).isLt
    have h1 : (y 1).val < 3 := (y 1).isLt
    omega⟩ (y 2))

/-- The last three rows of each sample's projected stream. -/
def newSample (w : Vec Ideal S1024x4112 .f32) (x : Vec Ideal S16896x1024 .f32) (g : Vec Ideal S1024 .f32) : Vec Ideal S128x3x1536 .f32 :=
  fun y => sampleArr (group 1536 1024 (by decide) w) x g (ix2 ⟨4 * (y 0).val + (y 1).val + 1, by
    have h0 : (y 0).val < 128 := (y 0).isLt
    have h1 : (y 1).val < 3 := (y 1).isLt
    omega⟩ (y 2))

/-- Cutting the prompt's rows past the convolution's first 2048 leaves the last three of each sequence. -/
theorem cut_prompt (z : Vec Ideal S8x3x1536 .f32) (u : Vec Ideal S16384x1536 .f32) (a : Fin 8) (i : Fin 3) (j : Fin 1536) :
    extractStridedSlice S8x3x1536 ![0, 2048, 0] (concatenate S8x2051x1536 1 [⟨S8x3x1536, z⟩,
      ⟨S8x2048x1536, shapeCast S8x2048x1536 u shapeCasts_S16384x1536_S8x2048x1536⟩] concatenates_S8x3x1536_S8x2048x1536_S8x2051x1536_d1)
      slices_S8x2051x1536_S8x3x1536_0_2048_0 (ix3 a i j) = u (ix2 ⟨2048 * a.val + i.val + 2045, by omega⟩ j) := by
  pointwise
  rw [dif_neg (by omega)]
  exact congrArg (fun r => u (ix2 r j)) (Fin.ext (by simp only; omega))

/-- Cutting the sample's rows past the convolution's first four leaves the last three of each sequence. -/
theorem cut_sample (z : Vec Ideal S128x3x1536 .f32) (u : Vec Ideal S512x1536 .f32) (a : Fin 128) (i : Fin 3) (j : Fin 1536) :
    extractStridedSlice S128x3x1536 ![0, 4, 0] (concatenate S128x7x1536 1 [⟨S128x3x1536, z⟩,
      ⟨S128x4x1536, shapeCast S128x4x1536 u shapeCasts_S512x1536_S128x4x1536⟩] concatenates_S128x3x1536_S128x4x1536_S128x7x1536_d1)
      slices_S128x7x1536_S128x3x1536_0_4_0 (ix3 a i j) = u (ix2 ⟨4 * a.val + i.val + 1, by omega⟩ j) := by
  pointwise
  rw [dif_neg (by omega)]
  exact congrArg (fun r => u (ix2 r j)) (Fin.ext (by simp only; omega))

/-- The arrays after the kernel, the others as before it. -/
abbrev done : Valuation τ sig (Elt Ideal) :=
  Pipeline.withArrays (cfgs 0).spec c (V0 m c) fun w => (dats m 0 c).arrAt w (cfgs 0).N

/-- What the host leaves as the prompt's kept rows. -/
theorem left_prompt : left m c main_v14 = newPrompt (m ((c : Thread nD τ).loc main_arg2)) (m ((c : Thread nD τ).loc main_arg0)) (m ((c : Thread nD τ).loc main_arg1)) := by
  have h : left m c main_v14 = (extractStridedSlice S8x3x1536 ![0, 2048, 0] (concatenate S8x2051x1536 1
      [⟨S8x3x1536, broadcastInDim S8x3x1536 ![] bcast_S_S8x3x1536 (constant (F := Ideal) S_ .f32 0x00000000#32)⟩,
      ⟨S8x2048x1536, shapeCast S8x2048x1536 (done m c (Proc.devRef .tc main_v9_1)) shapeCasts_S16384x1536_S8x2048x1536⟩]
      concatenates_S8x3x1536_S8x2048x1536_S8x2051x1536_d1) slices_S8x2051x1536_S8x3x1536_0_2048_0 : Vec Ideal S8x3x1536 .f32) := rfl
  have e : done m c (Proc.devRef .tc main_v9_1) = _ := Pipeline.withArrays_arr spec0 launch0.win.arr_inj c (V0 m c) (fun w => (dats m 0 c).arrAt w (cfgs 0).N) 9
  rw [h, e, (heads_eq m c).2.1]
  funext y
  idx_vars y
  exact cut_prompt _ _ y0 y1 y2

/-- What the host leaves as the sample's kept rows. -/
theorem left_sample : left m c main_v16 = newSample (m ((c : Thread nD τ).loc main_arg2)) (m ((c : Thread nD τ).loc main_arg0)) (m ((c : Thread nD τ).loc main_arg1)) := by
  have h : left m c main_v16 = (extractStridedSlice S128x3x1536 ![0, 4, 0] (concatenate S128x7x1536 1
      [⟨S128x3x1536, done m c (Proc.devRef .tc main_arg3)⟩,
      ⟨S128x4x1536, shapeCast S128x4x1536 (done m c (Proc.devRef .tc main_v9_7)) shapeCasts_S512x1536_S128x4x1536⟩]
      concatenates_S128x3x1536_S128x4x1536_S128x7x1536_d1) slices_S128x7x1536_S128x3x1536_0_4_0 : Vec Ideal S128x3x1536 .f32) := rfl
  have e : done m c (Proc.devRef .tc main_v9_7) = _ := Pipeline.withArrays_arr spec0 launch0.win.arr_inj c (V0 m c) (fun w => (dats m 0 c).arrAt w (cfgs 0).N) 15
  rw [h, e, (tails_eq m c).2.1]
  funext y
  idx_vars y
  exact cut_sample _ _ y0 y1 y2

end Cert.Odd

end
-- ==== Proof.Odd.Claim.lean ====
/-
  The odd layer's input projections: kernel and reference end with equal arrays, and the reference's frame.
-/
module

public import Idealize.ShloMosaic.Lib.Quiescent
public import proofs.«01_k».proof.Defs
public import proofs.«01_k».proof.Proof.Odd.Tail
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Odd

open Cert.Kernel5Ideal Cert.Kernel5Ideal.Gen Cert.Kernel5Ideal.Hand Idealize.ShloMosaic Idealize.ShloMosaic.TcCoe Idealize.SL.Sem

variable (m : (ℓ : Loc nD τ sig) → Buf (Elt Ideal) ℓ) (c : Dev nD)

/-- The kernel's arguments after the run are as before. -/
theorem kept (r : PUnit × MemSt nD τ sig (Elt Ideal)) (h : Pipeline.FramePost cfgs (dats m) 0 (left m) r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 0).trans (((dats m 0 c).arrAt_in 0 rfl _).trans ((A_eq m c 0).trans (V_main_arg0 m c))), ((h c).2 main_arg1 (by decide +kernel)).trans (W_main_arg1 m (dats m) c), ((h c).2 main_arg2 (by decide +kernel)).trans (W_main_arg2 m (dats m) c), ((h c).2 main_arg3 (by decide +kernel)).trans (W_main_arg3 m (dats m) c)⟩

set_option maxHeartbeats 8000000 in
/-- Kernel and reference end with equal arrays. -/
theorem algebraic : Cert.algebraic_Kernel5Ideal_Reference5Ideal := by
  intro m g m' g' _ hag
  refine ⟨fun c => promptArr (group 1024 0 (by decide) (m ((c : Thread nD τ).loc main_arg2))) (m ((c : Thread nD τ).loc main_arg0)) (m ((c : Thread nD τ).loc main_arg1)), fun c => sampleArr (group 1024 0 (by decide) (m ((c : Thread nD τ).loc main_arg2))) (m ((c : Thread nD τ).loc main_arg0)) (m ((c : Thread nD τ).loc main_arg1)), fun c => promptArr (group 1536 1024 (by decide) (m ((c : Thread nD τ).loc main_arg2))) (m ((c : Thread nD τ).loc main_arg0)) (m ((c : Thread nD τ).loc main_arg1)), fun c => sampleArr (group 1536 1024 (by decide) (m ((c : Thread nD τ).loc main_arg2))) (m ((c : Thread nD τ).loc main_arg0)) (m ((c : Thread nD τ).loc main_arg1)), fun c => promptArr (padded (m ((c : Thread nD τ).loc main_arg2))) (m ((c : Thread nD τ).loc main_arg0)) (m ((c : Thread nD τ).loc main_arg1)), fun c => sampleArr (padded (m ((c : Thread nD τ).loc main_arg2))) (m ((c : Thread nD τ).loc main_arg0)) (m ((c : Thread nD τ).loc main_arg1)), fun c => promptArr (group 512 2576 (by decide) (m ((c : Thread nD τ).loc main_arg2))) (m ((c : Thread nD τ).loc main_arg0)) (m ((c : Thread nD τ).loc main_arg1)), fun c => sampleArr (group 512 2576 (by decide) (m ((c : Thread nD τ).loc main_arg2))) (m ((c : Thread nD τ).loc main_arg0)) (m ((c : Thread nD τ).loc main_arg1)), fun c => promptArr (group 512 3088 (by decide) (m ((c : Thread nD τ).loc main_arg2))) (m ((c : Thread nD τ).loc main_arg0)) (m ((c : Thread nD τ).loc main_arg1)), fun c => sampleArr (group 512 3088 (by decide) (m ((c : Thread nD τ).loc main_arg2))) (m ((c : Thread nD τ).loc main_arg0)) (m ((c : Thread nD τ).loc main_arg1)), fun c => promptArr (group 512 3600 (by decide) (m ((c : Thread nD τ).loc main_arg2))) (m ((c : Thread nD τ).loc main_arg0)) (m ((c : Thread nD τ).loc main_arg1)), fun c => sampleArr (group 512 3600 (by decide) (m ((c : Thread nD τ).loc main_arg2))) (m ((c : Thread nD τ).loc main_arg0)) (m ((c : Thread nD τ).loc main_arg1)), fun c => newPrompt (m ((c : Thread nD τ).loc main_arg2)) (m ((c : Thread nD τ).loc main_arg0)) (m ((c : Thread nD τ).loc main_arg1)), fun c => newSample (m ((c : Thread nD τ).loc main_arg2)) (m ((c : Thread nD τ).loc main_arg0)) (m ((c : Thread nD τ).loc main_arg1)), ?_, ?_⟩
  · refine (θ_run Cert.Kernel5Ideal.defs _ _).mono (fun r h c => ?_) (Cert.Kernel5Ideal.Hand.run_main (F := Ideal) m g)
    obtain ⟨a0, a1, a2, a3, a4, a5⟩ := heads_eq m c
    obtain ⟨b0, b1, b2, b3, b4, b5⟩ := tails_eq m c
    exact ⟨((h c).1 8).trans a0, ((h c).1 14).trans b0, ((h c).1 9).trans a1, ((h c).1 15).trans b1, ((h c).1 10).trans a2, ((h c).1 16).trans b2, ((h c).1 11).trans a3, ((h c).1 17).trans b3, ((h c).1 12).trans a4, ((h c).1 18).trans b4, ((h c).1 13).trans a5, ((h c).1 19).trans b5, ((h c).2 main_v14 (by decide +kernel)).trans (left_prompt m c), ((h c).2 main_v16 (by decide +kernel)).trans (left_sample m c), kept m c r h⟩
  · refine (θ_run Cert.Reference5Ideal.defs _ _).mono (fun r h c => ?_) (Cert.Reference5Ideal.Value.run (F := Ideal) m' g')
    obtain ⟨e0, e1, e2, -⟩ := hag c
    obtain ⟨r0, r1, r2, r3, r4, r5, r6, r7, r8, r9, r10, r11, r12, r13, hk⟩ := h c
    refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, hk⟩
    all_goals
      rw [e0, e1, e2]
      funext y
      idx_vars y
      pointwise [promptArr, sampleArr, prompt, sample, proj, normed, group, padded, newPrompt, newSample]
    iterate 2
      by_cases hy : y1.val < 16
      · rw [dif_pos ⟨by omega, by omega, hy⟩]
        simp only [dif_pos hy]
      · rw [dif_neg fun h => hy h.2.2]
        simp only [dif_neg hy, mul_zero, Finset.sum_const_zero]
        exact fill
    all_goals
      rw [dif_neg (by omega)]
      simp only [show ∀ a i : ℕ, a * 2048 + (2048 + i - 3) = 2048 * a + i + 2045 from fun a i => by omega,
        show ∀ a i : ℕ, a * 4 + (4 + i - 3) = 4 * a + i + 1 from fun a i => by omega]

/-- The reference runs to its end, leaves its arguments and no semaphore up. -/
theorem frame_ref : Cert.quiescent_Reference5Ideal := fun m ρ _ =>
  (θ_run Cert.Reference5Ideal.defs _ _).mono (fun r h => ⟨fun c => (h c).2.2.2.2.2.2.2.2.2.2.2.2.2.2, sem_eq_zero_of_no_sems (by decide) r.2⟩)
    (Cert.Reference5Ideal.Value.run m ρ)

end Cert.Odd

end
-- ==== Proof.ResidualEven.Value.lean ====
/-
  The even layer's output projection with its residual: the kernel's array after the run is the residual plus the product, row by row.
-/
module

public import Idealize.ShloMosaic.Lib.Quiescent
public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

noncomputable section

namespace Cert.ResidualEven

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The row's mixed features: the prompt's rows first, the samples' after them. -/
def mixed (cp : Vec Ideal S16384x1024 .f32) (cs : Vec Ideal S512x1024 .f32) (r : Fin 16896) (k : Fin 1024) : EReal :=
  if h : r.val < 16384 then cp (ix2 ⟨r.val, h⟩ k) else cs (ix2 ⟨r.val - 16384, by omega⟩ k)

/-- The residual plus the projected features. -/
def spec (cp : Vec Ideal S16384x1024 .f32) (cs : Vec Ideal S512x1024 .f32) (w : Vec Ideal S1024x1024 .f32)
    (x : Vec Ideal S16896x1024 .f32) : Vec Ideal S16896x1024 .f32 :=
  fun y => x y + ∑ k : Fin 1024, mixed cp cs (y 0) k * w (ix2 k (y 1))

/-- The windows' block indices at point `t`. -/
theorem idxs : ∀ t : Fin cfg0.N,
    (win0_0.index t 0 = (t.val : ℕ) ∧ win0_0.index t 1 = 0) ∧ (win0_1.index t 0 = 0 ∧ win0_1.index t 1 = 0)
    ∧ (win0_2.index t 0 = (t.val : ℕ) ∧ win0_2.index t 1 = 0) ∧ (win0_3.index t 0 = (t.val : ℕ) ∧ win0_3.index t 1 = 0) :=
  (by decide +kernel : ∀ t : Fin grid0.N, _)

variable (t : Fin cfg0.N)

/-- The array row of row `i` of block `t`. -/
def row (i : Fin 512) : Fin 16896 := ⟨512 * t.val + i.val, by
  have := lt_of_lt_of_eq t.isLt (show cfg0.N = 33 from N_0); omega⟩

theorem row_val (i : Fin 512) : (row t i).val = 512 * t.val + i.val := rfl

theorem emb3 (i : Fin 512) (j : Fin 1024) : ((cfg0.win 3).blk t).view.emb (ix2 i j) = (ix2 (row t i) j : S16896x1024.Idx) := by
  obtain ⟨-, -, -, h6, h7⟩ := idxs t
  blk_ext [h6, h7, row_val]

theorem blk0 (i : Fin 512) (k : Fin 1024) : (iblk m c 0 t : Vec Ideal S512x1024 .bf16) (ix2 i k)
    = mixed (m ((c : Thread nD τ).loc main_arg0)) (m ((c : Thread nD τ).loc main_arg1)) (row t i) k := by
  obtain ⟨⟨h0, h1⟩, -⟩ := idxs t
  unfold mixed
  have hr := row_val t i
  by_cases h : (row t i).val < 16384
  · rw [dif_pos h]
    have h' : t.val * 512 + i.val < 16384 := by omega
    blk_ext! [iblk, V, h0, h1, row_val, h', dite_true, dite_false]
  · rw [dif_neg h]
    have h' : ¬ t.val * 512 + i.val < 16384 := by omega
    blk_ext! [iblk, V, h0, h1, row_val, h', dite_true, dite_false]

theorem blk1 (k : Fin 1024) (j : Fin 1024) : (iblk m c 1 t : Vec Ideal S1024x1024 .bf16) (ix2 k j) = m ((c : Thread nD τ).loc main_arg2) (ix2 k j) := by
  obtain ⟨-, ⟨h0, h1⟩, -⟩ := idxs t
  blk_ext! [iblk, V, h0, h1]

theorem blk2 (i : Fin 512) (j : Fin 1024) : (iblk m c 2 t : Vec Ideal S512x1024 .f32) (ix2 i j) = m ((c : Thread nD τ).loc main_arg3) (ix2 (row t i) j) := by
  obtain ⟨-, -, ⟨h0, h1⟩, -⟩ := idxs t
  blk_ext! [iblk, V, h0, h1, row_val]

/-- The array the kernel leaves. -/
theorem kernel_eq : (dats m 0 c).arrAt 3 (cfgs 0).N = spec (m ((c : Thread nD τ).loc main_arg0)) (m ((c : Thread nD τ).loc main_arg1))
    (m ((c : Thread nD τ).loc main_arg2)) (m ((c : Thread nD τ).loc main_arg3)) := by
  refine (dats m 0 c).arrAt_eq_of_covers 3 _ (by decide +kernel) fun t hf y => ?_
  blk_simp
  rw [after0_3]
  frame_out
  idx_vars y
  have he := emb3 t y0 y1
  refine Eq.trans ?_ (congrArg (spec _ _ _ _) he.symm)
  pointwise [k0_pay1, spec]
  simp only [blk0, blk1, blk2]

/-- Kernel and reference end with equal arrays. -/
theorem algebraic : Cert.algebraic_Kernel6Ideal_Reference6Ideal := by
  intro m g m' g' _ hag
  refine ⟨fun c => spec (m ((c : Thread nD τ).loc main_arg0)) (m ((c : Thread nD τ).loc main_arg1))
    (m ((c : Thread nD τ).loc main_arg2)) (m ((c : Thread nD τ).loc main_arg3)), ?_, ?_⟩
  · exact (θ_run Cert.Kernel6Ideal.defs _ _).mono (fun r h c => ⟨(h c).1.trans (kernel_eq m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    obtain ⟨e0, e1, e2, e3⟩ := hag c
    rw [e0, e1, e2, e3]
    funext y
    idx_vars y
    pointwise [spec, mixed]
    by_cases hy : y0.val < 16384
    · simp only [dif_pos hy]
    · simp only [dif_neg hy]
      have e : (⟨16384 + (y0.val - 16384), by omega⟩ : Fin 16896) = y0 := Fin.ext (by simp only; omega)
      rw [e]

/-- The reference runs to its end, leaves its arguments and no semaphore up. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

end Cert.ResidualEven

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Decay.Claims
public import proofs.«01_k».proof.Proof.Scores.Value
public import proofs.«01_k».proof.Proof.Residual.Value
public import proofs.«01_k».proof.Proof.Even.Body
public import proofs.«01_k».proof.Proof.Even.Claim
public import proofs.«01_k».proof.Proof.Odd.Body
public import proofs.«01_k».proof.Proof.Odd.Claim
public import proofs.«01_k».proof.Proof.ResidualEven.Value
public import Idealize.ShloMosaic.Adequacy
public import Idealize.ShloMosaic.Init

@[expose] public section

noncomputable section

namespace Cert.Proof

open Idealize.ShloMosaic Idealize.SL.Sem Cert.Kernel

/-- The claims of the six calls: the scan, the expert scores, the odd layer's output projection, the even and the odd layer's
    input projections, the even layer's output projection. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, Cert.Decay.frame_ref,
  fun m ρ _ => Cert.Kernel2.Gen.frame m ρ, fun m ρ _ => Cert.Kernel2Ideal.Gen.frame m ρ, Cert.Scores.frame_ref,
  fun m ρ _ => Cert.Kernel3.Gen.frame m ρ, fun m ρ _ => Cert.Kernel3Ideal.Gen.frame m ρ, Cert.Residual.frame_ref,
  fun m ρ _ => Cert.Kernel4.Hand.frame m ρ, fun m ρ _ => Cert.Kernel4Ideal.Hand.frame m ρ, Cert.Even.frame_ref,
  fun m ρ _ => Cert.Kernel5.Hand.frame m ρ, fun m ρ _ => Cert.Kernel5Ideal.Hand.frame m ρ, Cert.Odd.frame_ref,
  fun m ρ _ => Cert.Kernel6.Gen.frame m ρ, fun m ρ _ => Cert.Kernel6Ideal.Gen.frame m ρ, Cert.ResidualEven.frame_ref,
  trivial, Cert.Decay.algebraic, trivial, Cert.Scores.algebraic, trivial, Cert.Residual.algebraic,
  trivial, Cert.Even.algebraic, trivial, Cert.Odd.algebraic, trivial, Cert.ResidualEven.algebraic⟩

end Cert.Proof

end
